-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weight [hPre_finite_weight : Cert.Pre_finite_weight.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weight [hPre_finite_weight : Cert.Pre_finite_weight.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_weight [hKernelIdeal : Cert.KernelIdeal.Facts] [hPre_finite_weight : Cert.Pre_finite_weight.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weight m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_weight [hReferenceIdeal : Cert.ReferenceIdeal.Facts] [hPre_finite_weight : Cert.Pre_finite_weight.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weight m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_m" .f32 0x36A72F05#32 ((200704⁻¹ : ℝ) : EReal)

def algebraic_KernelIdeal_ReferenceIdeal_pre_finite_weight [hKernelIdeal : Cert.KernelIdeal.Facts] [hReferenceIdeal : Cert.ReferenceIdeal.Facts] [hPre_finite_weight : Cert.Pre_finite_weight.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weight m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_weight : Cert.Pre_finite_weight.Facts),
    quiescent_Kernel (hKernel := hKernel)
    ∧ quiescent_KernelIdeal (hKernelIdeal := hKernelIdeal)
    ∧ quiescent_KernelIdeal_pre_finite_weight (hKernelIdeal := hKernelIdeal) (hPre_finite_weight := hPre_finite_weight)
    ∧ quiescent_ReferenceIdeal (hReferenceIdeal := hReferenceIdeal)
    ∧ quiescent_ReferenceIdeal_pre_finite_weight (hReferenceIdeal := hReferenceIdeal) (hPre_finite_weight := hPre_finite_weight)
    ∧ preserves_Kernel_KernelIdeal
    ∧ algebraic_KernelIdeal_ReferenceIdeal_pre_finite_weight (hKernelIdeal := hKernelIdeal) (hReferenceIdeal := hReferenceIdeal) (hPre_finite_weight := hPre_finite_weight)
-- ==== Pre_finite_weight.lean ====
abbrev S64x256x56x56 : Shape := ⟨4, ![64, 256, 56, 56]⟩
abbrev S1x256x1x1 : Shape := ⟨4, ![1, 256, 1, 1]⟩
abbrev S_ : Shape := ⟨0, ![]⟩

class Facts : Prop where
  bcast_S_S1x256x1x1 : S_.BroadcastsInDim S1x256x1x1 (![] : Fin 0 → Fin S1x256x1x1.rank)
  reducesTo_S1x256x1x1_S_d0_1_2_3 : S1x256x1x1.ReducesTo [0, 1, 2, 3] S_
  h_S_ : 0 < S_.numel

variable [Facts]

def fn {F : FTy → Type} [FloatOps F] (main_arg0 : FVec F S64x256x56x56 .f32) (main_arg1 : FVec F S1x256x1x1 .f32) (main_arg2 : FVec F S1x256x1x1 .f32) : IVec S_ 1 :=
  let main_v0 : FVec F S1x256x1x1 .f32 := Host.absf main_arg1
  let main_cst : FVec F S_ .f32 := constant S_ .f32 0x7F800000#32
  let main_v1 : FVec F S1x256x1x1 .f32 := broadcastInDim S1x256x1x1 ![] bcast_S_S1x256x1x1 main_cst
  let main_v2 : IVec S1x256x1x1 1 := cmpf .olt main_v0 main_v1
  let main_c : IVec S_ 1 := constantI S_ 1 1#1
  let main_v3 : IVec S_ 1 := (fun x v => Host.reduce IntOp.andi x v reducesTo_S1x256x1x1_S_d0_1_2_3 h_S_) main_v2 main_c
  main_v3
-- ==== Kernel.lean ====
abbrev S64x256x56x56 : Shape := ⟨4, ![64, 256, 56, 56]⟩
abbrev S1x256x1x1 : Shape := ⟨4, ![1, 256, 1, 1]⟩
abbrev S64x56x56x256 : Shape := ⟨4, ![64, 56, 56, 256]⟩
abbrev S64x3136x256 : Shape := ⟨3, ![64, 3136, 256]⟩
abbrev S256x1 : Shape := ⟨2, ![256, 1]⟩
abbrev S1x256 : Shape := ⟨2, ![1, 256]⟩
abbrev S256x257 : Shape := ⟨2, ![256, 257]⟩
abbrev S4x3136x256 : Shape := ⟨3, ![4, 3136, 256]⟩
abbrev S256x256 : Shape := ⟨2, ![256, 256]⟩
abbrev S1x3136x256 : Shape := ⟨3, ![1, 3136, 256]⟩
abbrev S3136x256 : Shape := ⟨2, ![3136, 256]⟩
abbrev S3136x1 : Shape := ⟨2, ![3136, 1]⟩
abbrev S3136x257 : Shape := ⟨2, ![3136, 257]⟩
abbrev S256 : Shape := ⟨1, ![256]⟩

abbrev nBuf : Space → Nat
  | .hbm => 11
  | .vmem => 9
  | .smem => 0
  | _ => 0

abbrev bufTy : (tb : Table) → Fin (tcTables nBuf tb) → BufTy
  | .hbm, ⟨0, _⟩ => ⟨S64x256x56x56, .f32⟩
  | .hbm, ⟨1, _⟩ => ⟨S1x256x1x1, .f32⟩
  | .hbm, ⟨2, _⟩ => ⟨S1x256x1x1, .f32⟩
  | .hbm, ⟨3, _⟩ => ⟨S64x56x56x256, .f32⟩
  | .hbm, ⟨4, _⟩ => ⟨S64x3136x256, .f32⟩
  | .hbm, ⟨5, _⟩ => ⟨S256x1, .f32⟩
  | .hbm, ⟨6, _⟩ => ⟨S1x256, .f32⟩
  | .hbm, ⟨7, _⟩ => ⟨S256x257, .f32⟩
  | .hbm, ⟨8, _⟩ => ⟨S64x3136x256, .f32⟩
  | .hbm, ⟨9, _⟩ => ⟨S64x56x56x256, .f32⟩
  | .hbm, ⟨10, _⟩ => ⟨S64x256x56x56, .f32⟩
  | .local _ .vmem, ⟨0, _⟩ => ⟨S4x3136x256, .f32⟩
  | .local _ .vmem, ⟨1, _⟩ => ⟨S4x3136x256, .f32⟩
  | .local _ .vmem, ⟨2, _⟩ => ⟨S256x1, .f32⟩
  | .local _ .vmem, ⟨3, _⟩ => ⟨S1x256, .f32⟩
  | .local _ .vmem, ⟨4, _⟩ => ⟨S256x257, .f32⟩
  | .local _ .vmem, ⟨5, _⟩ => ⟨S4x3136x256, .f32⟩
  | .local _ .vmem, ⟨6, _⟩ => ⟨S4x3136x256, .f32⟩
  | .local _ .vmem, ⟨7, _⟩ => ⟨S256x256, .f32⟩
  | .local _ .vmem, ⟨8, _⟩ => ⟨S1x256, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c0_i32_19 : BitVec 32 := 0#32
  let v32 : BitVec 1 := Scalar.cmpi .eq arg0 c0_i32_19
  let v33 : BitVec 32 := Scalar.extui v32
  let c0_i32_20 : BitVec 32 := 0#32
  let v34 : BitVec 1 := Scalar.cmpi .ne v33 c0_i32_20
  v34

def k0_cond3 (i : grid0.Coords) : BitVec 1 :=
  let arg0 : BitVec 32 := BitVec.ofNat 32 (i 0).val
  let c0_i32_21 : BitVec 32 := 0#32
  let v35 : BitVec 1 := Scalar.cmpi .sgt arg0 c0_i32_21
  let v36 : BitVec 32 := Scalar.extui v35
  let c0_i32_22 : BitVec 32 := 0#32
  let v37 : BitVec 1 := Scalar.cmpi .ne v36 c0_i32_22
  v37

def k0_cond5 (i : grid0.Coords) : BitVec 1 :=
  let arg0 : BitVec 32 := BitVec.ofNat 32 (i 0).val
  let c16_i32_2 : BitVec 32 := 16#32
  let v6 : BitVec 1 := Scalar.cmpi .sgt arg0 c16_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c16_i32 : BitVec 32 := 16#32
  let v0 : BitVec 1 := Scalar.cmpi .slt arg0 c16_i32
  let c15_i32 : BitVec 32 := 15#32
  let v1 : BitVec 32 := Scalar.minsi arg0 c15_i32
  let c16_i32_0 : BitVec 32 := 16#32
  let v2 : BitVec 32 := Scalar.subi arg0 c16_i32_0
  let c1_i32 : BitVec 32 := 1#32
  let v3 : BitVec 32 := Scalar.subi v2 c1_i32
  let c0_i32 : BitVec 32 := 0#32
  let v4 : BitVec 32 := Scalar.maxsi v3 c0_i32
  let v5 : BitVec 32 := Scalar.select v0 v1 v4
  let c0_i32_1 : BitVec 32 := 0#32
  let c0_i32_2 : BitVec 32 := 0#32
  let c0_i32_3 : BitVec 32 := 0#32
  ![v5.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.subi arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

abbrev stage0_0 : Fin 2 → Memref sig .tc .vmem S4x3136x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x3136x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_m" => some ((200704⁻¹ : ℝ) : EReal)
  | _ => none
-- ==== ReferenceIdeal.lean ====
abbrev S64x256x56x56 : Shape := ⟨4, ![64, 256, 56, 56]⟩
abbrev S1x256x1x1 : Shape := ⟨4, ![1, 256, 1, 1]⟩
abbrev S256x64x56x56 : Shape := ⟨4, ![256, 64, 56, 56]⟩
abbrev S16x16x200704 : Shape := ⟨3, ![16, 16, 200704]⟩
abbrev S_ : Shape := ⟨0, ![]⟩
abbrev S16x16 : Shape := ⟨2, ![16, 16]⟩
abbrev S16x16x1 : Shape := ⟨3, ![16, 16, 1]⟩
abbrev S16x16x16 : Shape := ⟨3, ![16, 16, 16]⟩
abbrev S1x16x16 : Shape := ⟨3, ![1, 16, 16]⟩
abbrev S16 : Shape := ⟨1, ![16]⟩
abbrev S16x1x1 : Shape := ⟨3, ![16, 1, 1]⟩

abbrev nBuf : Space → Nat
  | .hbm => 245
  | .vmem => 0
  | .smem => 0
  | _ => 0

abbrev hbmTy0_0 (i : Nat) : BufTy := match i % 128 with
  | 0 => ⟨S64x256x56x56, .f32⟩
  | 1 => ⟨S1x256x1x1, .f32⟩
  | 2 => ⟨S1x256x1x1, .f32⟩
  | 3 => ⟨S256x64x56x56, .f32⟩
  | 4 => ⟨S16x16x200704, .f32⟩
  | 5 => ⟨S_, .f32⟩
  | 6 => ⟨S16x16, .f32⟩
  | 7 => ⟨S16x16x1, .f32⟩
  | 8 => ⟨S_, .f32⟩
  | 9 => ⟨S16x16x1, .f32⟩
  | 10 => ⟨S16x16x1, .f32⟩
  | 11 => ⟨S16x16x200704, .f32⟩
  | 12 => ⟨S16x16x200704, .f32⟩
  | 13 => ⟨S16x16, .i32⟩
  | 14 => ⟨S16x16, .i32⟩
  | 15 => ⟨S_, .i32⟩
  | 16 => ⟨S16x16, .i32⟩
  | 17 => ⟨S16x16, .i32⟩
  | 18 => ⟨S16x16, .i1⟩
  | 19 => ⟨S16x16, .f32⟩
  | 20 => ⟨S_, .f32⟩
  | 21 => ⟨S16x16, .f32⟩
  | 22 => ⟨S16x16, .f32⟩
  | 23 => ⟨S16x16x16, .f32⟩
  | 24 => ⟨S_, .f32⟩
  | 25 => ⟨S16x16x16, .f32⟩
  | 26 => ⟨S16x16x16, .f32⟩
  | 27 => ⟨S1x16x16, .f32⟩
  | 28 => ⟨S16x16x16, .f32⟩
  | 29 => ⟨S16x16x16, .f32⟩
  | 30 => ⟨S16x16x16, .f32⟩
  | 31 => ⟨S_, .f32⟩
  | 32 => ⟨S16, .f32⟩
  | 33 => ⟨S16x1x1, .f32⟩
  | 34 => ⟨S16x1x1, .f32⟩
  | 35 => ⟨S16x16x16, .f32⟩
  | 36 => ⟨S16x16x16, .f32⟩
  | 37 => ⟨S16x16, .i32⟩
  | 38 => ⟨S16x16, .i32⟩
  | 39 => ⟨S_, .i32⟩
  | 40 => ⟨S16x16, .i32⟩
  | 41 => ⟨S16x16, .i32⟩
  | 42 => ⟨S16x16, .i1⟩
  | 43 => ⟨S16x16, .f32⟩
  | 44 => ⟨S16x16x16, .f32⟩
  | 45 => ⟨S16x16, .i32⟩
  | 46 => ⟨S16x16, .i32⟩
  | 47 => ⟨S_, .i32⟩
  | 48 => ⟨S16x16, .i32⟩
  | 49 => ⟨S16x16, .i32⟩
  | 50 => ⟨S16x16, .i1⟩
  | 51 => ⟨S16x16, .f32⟩
  | 52 => ⟨S_, .f32⟩
  | 53 => ⟨S16x16, .f32⟩
  | 54 => ⟨S16x16, .f32⟩
  | 55 => ⟨S16x16x16, .f32⟩
  | 56 => ⟨S1x16x16, .f32⟩
  | 57 => ⟨S16x16x16, .f32⟩
  | 58 => ⟨S16x16x16, .f32⟩
  | 59 => ⟨S_, .f32⟩
  | 60 => ⟨S16x16x16, .f32⟩
  | 61 => ⟨S16x16x16, .f32⟩
  | 62 => ⟨S16x16x16, .f32⟩
  | 63 => ⟨S16x16x16, .f32⟩
  | 64 => ⟨S16x16, .i32⟩
  | 65 => ⟨S16x16, .i32⟩
  | 66 => ⟨S_, .i32⟩
  | 67 => ⟨S16x16, .i32⟩
  | 68 => ⟨S16x16, .i32⟩
  | 69 => ⟨S16x16, .i1⟩
  | 70 => ⟨S16x16, .f32⟩
  | 71 => ⟨S_, .f32⟩
  | 72 => ⟨S16x16, .f32⟩
  | 73 => ⟨S16x16, .f32⟩
  | 74 => ⟨S16x16x16, .f32⟩
  | 75 => ⟨S1x16x16, .f32⟩
  | 76 => ⟨S16x16x16, .f32⟩
  | 77 => ⟨S16x16x16, .f32⟩
  | 78 => ⟨S_, .f32⟩
  | 79 => ⟨S16x16x16, .f32⟩
  | 80 => ⟨S16x16x16, .f32⟩
  | 81 => ⟨S16x16x16, .f32⟩
  | 82 => ⟨S16x16x16, .f32⟩
  | 83 => ⟨S16x16, .i32⟩
  | 84 => ⟨S16x16, .i32⟩
  | 85 => ⟨S_, .i32⟩
  | 86 => ⟨S16x16, .i32⟩
  | 87 => ⟨S16x16, .i32⟩
  | 88 => ⟨S16x16, .i1⟩
  | 89 => ⟨S16x16, .f32⟩
  | 90 => ⟨S_, .f32⟩
  | 91 => ⟨S16x16, .f32⟩
  | 92 => ⟨S16x16, .f32⟩
  | 93 => ⟨S16x16x16, .f32⟩
  | 94 => ⟨S1x16x16, .f32⟩
  | 95 => ⟨S16x16x16, .f32⟩
  | 96 => ⟨S16x16x16, .f32⟩
  | 97 => ⟨S_, .f32⟩
  | 98 => ⟨S16x16x16, .f32⟩
  | 99 => ⟨S16x16x16, .f32⟩
  | 100 => ⟨S16x16x16, .f32⟩
  | 101 => ⟨S16x16x16, .f32⟩
  | 102 => ⟨S16x16, .i32⟩
  | 103 => ⟨S16x16, .i32⟩
  | 104 => ⟨S_, .i32⟩
  | 105 => ⟨S16x16, .i32⟩
  | 106 => ⟨S16x16, .i32⟩
  | 107 => ⟨S16x16, .i1⟩
  | 108 => ⟨S16x16, .f32⟩
  | 109 => ⟨S_, .f32⟩
  | 110 => ⟨S16x16, .f32⟩
  | 111 => ⟨S16x16, .f32⟩
  | 112 => ⟨S16x16x16, .f32⟩
  | 113 => ⟨S1x16x16, .f32⟩
  | 114 => ⟨S16x16x16, .f32⟩
  | 115 => ⟨S16x16x16, .f32⟩
  | 116 => ⟨S_, .f32⟩
  | 117 => ⟨S16x16x16, .f32⟩
  | 118 => ⟨S16x16x16, .f32⟩
  | 119 => ⟨S16x16x16, .f32⟩
  | 120 => ⟨S16x16x16, .f32⟩
  | 121 => ⟨S16x16, .i32⟩
  | 122 => ⟨S16x16, .i32⟩
  | 123 => ⟨S_, .i32⟩
  | 124 => ⟨S16x16, .i32⟩
  | 125 => ⟨S16x16, .i32⟩
  | 126 => ⟨S16x16, .i1⟩
  | 127 => ⟨S16x16, .f32⟩
  | _ => ⟨S64x256x56x56, .f32⟩

abbrev hbmTy0_1 (i : Nat) : BufTy := match i % 128 with
  | 0 => ⟨S_, .f32⟩
  | 1 => ⟨S16x16, .f32⟩
  | 2 => ⟨S16x16, .f32⟩
  | 3 => ⟨S16x16x16, .f32⟩
  | 4 => ⟨S1x16x16, .f32⟩
  | 5 => ⟨S16x16x16, .f32⟩
  | 6 => ⟨S16x16x16, .f32⟩
  | 7 => ⟨S_, .f32⟩
  | 8 => ⟨S16x16x16, .f32⟩
  | 9 => ⟨S16x16x16, .f32⟩
  | 10 => ⟨S16x16x16, .f32⟩
  | 11 => ⟨S16x16x16, .f32⟩
  | 12 => ⟨S16x16, .i32⟩
  | 13 => ⟨S16x16, .i32⟩
  | 14 => ⟨S_, .i32⟩
  | 15 => ⟨S16x16, .i32⟩
  | 16 => ⟨S16x16, .i32⟩
  | 17 => ⟨S16x16, .i1⟩
  | 18 => ⟨S16x16, .f32⟩
  | 19 => ⟨S_, .f32⟩
  | 20 => ⟨S16x16, .f32⟩
  | 21 => ⟨S16x16, .f32⟩
  | 22 => ⟨S16x16x16, .f32⟩
  | 23 => ⟨S1x16x16, .f32⟩
  | 24 => ⟨S16x16x16, .f32⟩
  | 25 => ⟨S16x16x16, .f32⟩
  | 26 => ⟨S_, .f32⟩
  | 27 => ⟨S16x16x16, .f32⟩
  | 28 => ⟨S16x16x16, .f32⟩
  | 29 => ⟨S16x16x16, .f32⟩
  | 30 => ⟨S16x16x16, .f32⟩
  | 31 => ⟨S16x16, .i32⟩
  | 32 => ⟨S16x16, .i32⟩
  | 33 => ⟨S_, .i32⟩
  | 34 => ⟨S16x16, .i32⟩
  | 35 => ⟨S16x16, .i32⟩
  | 36 => ⟨S16x16, .i1⟩
  | 37 => ⟨S16x16, .f32⟩
  | 38 => ⟨S_, .f32⟩
  | 39 => ⟨S16x16, .f32⟩
  | 40 => ⟨S16x16, .f32⟩
  | 41 => ⟨S16x16x16, .f32⟩
  | 42 => ⟨S1x16x16, .f32⟩
  | 43 => ⟨S16x16x16, .f32⟩
  | 44 => ⟨S16x16x16, .f32⟩
  | 45 => ⟨S_, .f32⟩
  | 46 => ⟨S16x16x16, .f32⟩
  | 47 => ⟨S16x16x16, .f32⟩
  | 48 => ⟨S16x16x16, .f32⟩
  | 49 => ⟨S16x16x16, .f32⟩
  | 50 => ⟨S16x16, .i32⟩
  | 51 => ⟨S16x16, .i32⟩
  | 52 => ⟨S_, .i32⟩
  | 53 => ⟨S16x16, .i32⟩
  | 54 => ⟨S16x16, .i32⟩
  | 55 => ⟨S16x16, .i1⟩
  | 56 => ⟨S16x16, .f32⟩
  | 57 => ⟨S_, .f32⟩
  | 58 => ⟨S16x16, .f32⟩
  | 59 => ⟨S16x16, .f32⟩
  | 60 => ⟨S16x16x16, .f32⟩
  | 61 => ⟨S1x16x16, .f32⟩
  | 62 => ⟨S16x16x16, .f32⟩
  | 63 => ⟨S16x16x16, .f32⟩
  | 64 => ⟨S_, .f32⟩
  | 65 => ⟨S16x16x16, .f32⟩
  | 66 => ⟨S16x16x16, .f32⟩
  | 67 => ⟨S16x16x16, .f32⟩
  | 68 => ⟨S16x16x16, .f32⟩
  | 69 => ⟨S16x16, .i32⟩
  | 70 => ⟨S16x16, .i32⟩
  | 71 => ⟨S_, .i32⟩
  | 72 => ⟨S16x16, .i32⟩
  | 73 => ⟨S16x16, .i32⟩
  | 74 => ⟨S16x16, .i1⟩
  | 75 => ⟨S16x16, .f32⟩
  | 76 => ⟨S_, .f32⟩
  | 77 => ⟨S16x16, .f32⟩
  | 78 => ⟨S16x16, .f32⟩
  | 79 => ⟨S16x16x16, .f32⟩
  | 80 => ⟨S1x16x16, .f32⟩
  | 81 => ⟨S16x16x16, .f32⟩
  | 82 => ⟨S16x16x16, .f32⟩
  | 83 => ⟨S_, .f32⟩
  | 84 => ⟨S16x16x16, .f32⟩
  | 85 => ⟨S16x16x16, .f32⟩
  | 86 => ⟨S16x16x16, .f32⟩
  | 87 => ⟨S16x16x16, .f32⟩
  | 88 => ⟨S16x16, .i32⟩
  | 89 => ⟨S16x16, .i32⟩
  | 90 => ⟨S_, .i32⟩
  | 91 => ⟨S16x16, .i32⟩
  | 92 => ⟨S16x16, .i32⟩
  | 93 => ⟨S16x16, .i1⟩
  | 94 => ⟨S16x16, .f32⟩
  | 95 => ⟨S_, .f32⟩
  | 96 => ⟨S16x16, .f32⟩
  | 97 => ⟨S16x16, .f32⟩
  | 98 => ⟨S16x16x16, .f32⟩
  | 99 => ⟨S1x16x16, .f32⟩
  | 100 => ⟨S16x16x16, .f32⟩
  | 101 => ⟨S16x16x16, .f32⟩
  | 102 => ⟨S_, .f32⟩
  | 103 => ⟨S16x16x16, .f32⟩
  | 104 => ⟨S16x16x16, .f32⟩
  | 105 => ⟨S16x16x16, .f32⟩
  | 106 => ⟨S16x16x16, .f32⟩
  | 107 => ⟨S16x1x1, .f32⟩
  | 108 => ⟨S16x16x16, .f32⟩
  | 109 => ⟨S16x16x16, .f32⟩
  | 110 => ⟨S16x16x200704, .f32⟩
  | 111 => ⟨S256x64x56x56, .f32⟩
  | 112 => ⟨S64x256x56x56, .f32⟩
  | 113 => ⟨S64x256x56x56, .f32⟩
  | 114 => ⟨S64x256x56x56, .f32⟩
  | 115 => ⟨S64x256x56x56, .f32⟩
  | 116 => ⟨S64x256x56x56, .f32⟩
  | _ => ⟨S64x256x56x56, .f32⟩

abbrev hbmTy (i : Nat) : BufTy := match i / 128 with
  | 0 => hbmTy0_0 i
  | 1 => hbmTy0_1 i
  | _ => ⟨S64x256x56x56, .f32⟩

abbrev bufTy : (tb : Table) → Fin (tcTables nBuf tb) → BufTy
  | .hbm, ⟨i, _⟩ => hbmTy i
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_11 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_12 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_13 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_c_14 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_15 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_16 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_c_17 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_18 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_19 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_c_20 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_21 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_cst_22 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_c_23 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_24 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_cst_25 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_c_26 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_cst_27 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_cst_28 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_c_29 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_cst_30 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_cst_31 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_c_32 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_cst_33 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_cst_34 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩

abbrev nD : Nat := 1
abbrev τ : Topo := Topo.v7x

variable {F : FTy → Type} [FloatOps F]
-- ==== Proof.Ideal.Conds.lean ====
/-
  What the runs of the kernel's body share: when each of its branches is taken, where its two output windows are left
  alone, and the memrefs it is called with.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Pipeline.ValueKit
public import Idealize.ShloMosaic.Lib.Tactic
public import Idealize.ShloMosaic.Lib.WordCmp

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## The branches -/

/-- The accumulating branch: the first sixteen points. -/
abbrev isAcc (i : grid0.Coords) : Prop := k0_cond1 i = 1#1
theorem isAcc_iff : ∀ t : Fin cfg0.N, isAcc (grid0.coords t) ↔ t.val < 16 :=
  (by decide +kernel : ∀ t : Fin grid0.N, isAcc (grid0.coords t) ↔ t.val < 16)

/-- The first point, which starts the accumulator. -/
abbrev isFirst (i : grid0.Coords) : Prop := k0_cond2 i = 1#1
theorem isFirst_iff : ∀ t : Fin cfg0.N, isFirst (grid0.coords t) ↔ t.val = 0 :=
  (by decide +kernel : ∀ t : Fin grid0.N, isFirst (grid0.coords t) ↔ t.val = 0)

/-- The later points, which add to the accumulator. -/
abbrev isLater (i : grid0.Coords) : Prop := k0_cond3 i = 1#1
theorem isLater_iff : ∀ t : Fin cfg0.N, isLater (grid0.coords t) ↔ 1 ≤ t.val :=
  (by decide +kernel : ∀ t : Fin grid0.N, isLater (grid0.coords t) ↔ 1 ≤ t.val)

/-- The one point that turns the accumulator into the whitening matrix and the offset. -/
abbrev isSolve (i : grid0.Coords) : Prop :=
  (Scalar.cmpi .ne (Scalar.extui (Scalar.cmpi .eq (BitVec.ofNat 32 (i 0).val) 16#32)) 0#32) = 1#1
theorem isSolve_iff : ∀ t : Fin cfg0.N, isSolve (grid0.coords t) ↔ t.val = 16 :=
  (by decide +kernel : ∀ t : Fin grid0.N, isSolve (grid0.coords t) ↔ t.val = 16)

/-- The points that write the output. -/
abbrev isApply (i : grid0.Coords) : Prop := k0_cond5 i = 1#1
theorem isApply_iff : ∀ t : Fin cfg0.N, isApply (grid0.coords t) ↔ 17 ≤ t.val :=
  (by decide +kernel : ∀ t : Fin grid0.N, isApply (grid0.coords t) ↔ 17 ≤ t.val)

/-! ## Where the output windows are left alone, and where they are written back -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl

theorem live3 : ∀ t : Fin cfg0.N, t.val < 16 → cfg0.idle 3 (grid0.coords t) = false :=
  (by decide +kernel : ∀ t : Fin grid0.N, t.val < 16 → cfg0.idle 3 (grid0.coords t) = false)
theorem idle3 : ∀ t : Fin cfg0.N, 16 ≤ t.val → cfg0.idle 3 (grid0.coords t) = true :=
  (by decide +kernel : ∀ t : Fin grid0.N, 16 ≤ t.val → cfg0.idle 3 (grid0.coords t) = true)
theorem live4 : ∀ t : Fin cfg0.N, 17 ≤ t.val → cfg0.idle 4 (grid0.coords t) = false :=
  (by decide +kernel : ∀ t : Fin grid0.N, 17 ≤ t.val → cfg0.idle 4 (grid0.coords t) = false)
theorem idle4 : ∀ t : Fin cfg0.N, t.val < 17 → cfg0.idle 4 (grid0.coords t) = true :=
  (by decide +kernel : ∀ t : Fin grid0.N, t.val < 17 → cfg0.idle 4 (grid0.coords t) = true)
theorem keep3 : ∀ t : Fin cfg0.N, t.val ≠ 32 → (cfg0.win 3).flush t = false :=
  (by decide +kernel : ∀ t : Fin grid0.N, t.val ≠ 32 → (cfg0.win 3).flush t = false)
theorem back3 : ∀ t : Fin cfg0.N, t.val = 32 → (cfg0.win 3).flush t = true :=
  (by decide +kernel : ∀ t : Fin grid0.N, t.val = 32 → (cfg0.win 3).flush t = true)
theorem keep4 : ∀ t : Fin cfg0.N, t.val < 17 → (cfg0.win 4).flush t = false :=
  (by decide +kernel : ∀ t : Fin grid0.N, t.val < 17 → (cfg0.win 4).flush t = false)
theorem nofetch3 : ∀ t : Fin cfg0.N, (cfg0.win 3).fetch t = false :=
  (by decide +kernel : ∀ t : Fin grid0.N, (cfg0.win 3).fetch t = false)

/-! ## The memrefs -/

abbrev ms0 (t : Fin cfg0.N) : Memref sig .tc .vmem S4x3136x256 .f32 := win0_0.stage (cfg0.slots t 0)
abbrev ms1 (t : Fin cfg0.N) : Memref sig .tc .vmem S256x1 .f32 := win0_1.stage (cfg0.slots t 1)
abbrev ms2 (t : Fin cfg0.N) : Memref sig .tc .vmem S1x256 .f32 := win0_2.stage (cfg0.slots t 2)
abbrev ms3 (t : Fin cfg0.N) : Memref sig .tc .vmem S256x257 .f32 := win0_3.stage (cfg0.slots t 3)
abbrev ms4 (t : Fin cfg0.N) : Memref sig .tc .vmem S4x3136x256 .f32 := win0_4.stage (cfg0.slots t 4)
/-- The scratch that carries the whitening matrix. -/
abbrev scW : Memref sig .tc .vmem S256x256 .f32 := Memref.whole cc0_scratch0
/-- The scratch that carries the offset. -/
abbrev scO : Memref sig .tc .vmem S1x256 .f32 := Memref.whole cc0_scratch1

/-- The scratch at any contents and the generator's register, one by one. -/
theorem phiA_eq (c : Dev nD) :
    (Pipeline.ΦA spec0 c : sProp 𝕄)
      = iprop(iprop((∃ d, owns (c : Thread nD τ) scW fullShare d) ∗ (∃ d, owns (c : Thread nD τ) scO fullShare d)) ∗ (∃ r, prngReg c r)) := by
  unfold Pipeline.ΦA; rw [scopedRest0_eq]; simp only [scW, scO, owns_whole]; try rfl

/-- Image `k` of a block of four. -/
def slab (x : Vec F S4x3136x256 .f32) (k : Fin 4) : Vec F S1x3136x256 .f32 :=
  fun j => x (ix3 k (j 1) (j 2))

end Cert.Proof.Ideal

end
-- ==== Proof.Ideal.Blocks.lean ====
/-
  What the kernel's body computes from what it reads, one function per branch: the second moments a block of four images
  adds, the whitening matrix and the offset the solving point makes from all of them, and the block of outputs an
  applying point writes.
-/
module

public import proofs.«01_k».proof.Proof.Ideal.Conds

@[expose] public section

set_option maxRecDepth 16384

noncomputable section

namespace Cert.Proof.Ideal

open Cert.KernelIdeal Cert.KernelIdeal.Gen
open Idealize.ShloMosaic

variable {F : FTy → Type} [FloatOps F] [Named F]

/-- What four images contribute to the accumulator. -/
def accOf (x : Vec F S4x3136x256 .f32) : FVec F S256x257 .f32 :=
  k0_pay1 (slab x 0) (slab x 1) (slab x 2) (slab x 3)

/-- The accumulator with four more images added. -/
def addOf (x : Vec F S4x3136x256 .f32) (p : Vec F S256x257 .f32) : FVec F S256x257 .f32 :=
  k0_pay2 (slab x 0) (slab x 1) (slab x 2) (slab x 3) p

/-- The two coordinates of a matrix position, as words. -/
abbrev rowWord : IVec S256x256 32 := iota .tc S256x256 32 [0] iota_S256x256_d0_w32
abbrev colWord : IVec S256x256 32 := iota .tc S256x256 32 [1] iota_S256x256_d1_w32
/-- Two scalars of the group arithmetic. -/
abbrev posBit : BitVec 32 := Scalar.extui (Scalar.cmpi .sgt 16#32 0#32)
abbrev negBit : BitVec 1 := Scalar.cmpi .slt 16#32 0#32

/-- The identity matrix. -/
def eyeK : FVec F S256x256 .f32 := k0_pay14 (F := F) rowWord colWord
/-- One inside the diagonal groups, zero outside. -/
def maskK : FVec F S256x256 .f32 :=
  k0_pay13 (F := F) colWord k0_pay10 16#32 k0_pay11 k0_pay12 posBit negBit
/-- The regularised covariance, zero outside the groups. -/
def sigmaK (p : Vec F S256x257 .f32) : FVec F S256x256 .f32 :=
  k0_pay15 (k0_pay7 p) (k0_pay9 p) rowWord colWord k0_pay10 16#32 k0_pay11 k0_pay12 posBit negBit
/-- The reciprocal of each row's group norm. -/
def invfK (p : Vec F S256x257 .f32) : FVec F S256x1 .f32 :=
  k0_pay16 (k0_pay7 p) (k0_pay9 p) rowWord colWord k0_pay10 16#32 k0_pay11 k0_pay12 posBit negBit
/-- The first iterate of each of the two sequences. -/
def y1K (p : Vec F S256x257 .f32) : FVec F S256x256 .f32 :=
  k0_pay19 (k0_pay7 p) (k0_pay9 p) rowWord colWord k0_pay10 16#32 k0_pay11 k0_pay12 posBit negBit
def z1K (p : Vec F S256x257 .f32) : FVec F S256x256 .f32 :=
  k0_pay20 (k0_pay7 p) (k0_pay9 p) rowWord colWord k0_pay10 16#32 k0_pay11 k0_pay12 posBit negBit

/-- The whitening matrix before the per-channel weight. -/
def whitenK (p : Vec F S256x257 .f32) : FVec F S256x256 .f32 :=
  k0_pay35 eyeK (invfK p)
    (k0_pay32 eyeK (y1K p) (z1K p) (k0_pay21 (F := F)))
    (k0_pay33 eyeK (y1K p) (z1K p) (k0_pay21 (F := F)))
    (k0_pay34 eyeK (y1K p) (z1K p) (k0_pay21 (F := F)))
    (constant S256x256 .f32 0x00000000#32)

/-- The whitening matrix, weighted: what the first scratch carries. -/
def wfOf (p : Vec F S256x257 .f32) (w : Vec F S256x1 .f32) : FVec F S256x256 .f32 :=
  k0_pay4 (whitenK p) (k0_pay36 w)

/-- The offset: what the second scratch carries. -/
def offOf (p : Vec F S256x257 .f32) (w : Vec F S256x1 .f32) (b : Vec F S1x256 .f32) : FVec F S1x256 .f32 :=
  k0_pay5 (k0_pay8 p) (whitenK p) (k0_pay36 w) b

/-- Four images of output. -/
def outOf (wf : Vec F S256x256 .f32) (off : Vec F S1x256 .f32) (x : Vec F S4x3136x256 .f32) : Vec F S4x3136x256 .f32 :=
  fun j => k0_pay37 wf off (slab x (j 0)) (ix3 (0 : Fin 1) (j 1) (j 2))

/-- One image read out of a block of four. -/
theorem read_slab {κ : Kind} {sp : Space} {sg : RefSig} (v : View sg κ sp S4x3136x256 .f32) (f : v.ty.Contents (Elt F)) (k : Fin 4)
    (inb : ∀ a, (![k.val, 0, 0] : Fin 3 → ℕ) a + S1x3136x256.size a ≤ S4x3136x256.size a) :
    View.readAt (Elt F) v (Rect.unit (s := S4x3136x256) ![k.val, 0, 0] S1x3136x256.size inb).toLoadRect f
      = slab (v.read (Elt F) f) k := by
  refine (View.readAt_eq_ld v f _).trans ?_
  funext j
  refine View.ld_unit_apply_of _ _ _ _ _ _ fun a => ?_
  have h0 : (j 0 : ℕ) < 1 := (j 0).isLt
  fin_cases a
  · show k.val = k.val + (j 0 : ℕ); omega
  · show (j 1 : ℕ) = 0 + (j 1 : ℕ); omega
  · show (j 2 : ℕ) = 0 + (j 2 : ℕ); omega

/-- A whole array read through its own rectangle. -/
theorem read_all {κ : Kind} {sp : Space} {sg : RefSig} {s : Shape} {e : EltTy} (v : View sg κ sp s e) (f : v.ty.Contents (Elt F))
    {off : Fin s.rank → ℕ} (h : ∀ a, off a = 0) (inb : ∀ a, off a + s.size a ≤ s.size a) :
    View.readAt (Elt F) v (Rect.unit off s.size inb).toLoadRect f = v.read (Elt F) f :=
  (View.readAt_eq_ld v f _).trans (View.ld_unit_zero (funext h) inb _)

/-- A store through a whole array's own rectangle leaves what was stored. -/
theorem read_stored {κ : Kind} {sp : Space} {sg : RefSig} {s : Shape} {e : EltTy} (v : View sg κ sp s e) (f : v.ty.Contents (Elt F))
    {off : Fin s.rank → ℕ} (h : ∀ a, off a = 0) (inb : ∀ a, off a + s.size a ≤ s.size a) (w : s.Idx → Elt F e) :
    v.read (Elt F) (v.writes (Elt F) f [⟨Rect.unit off s.size inb, w⟩]) = w := by
  refine (View.read_writes_eq_canon _ _ _ fun y => ⟨_, List.mem_singleton_self _, ?_⟩).trans
    (View.canon_unit_zero (funext h) inb w)
  show y ∈ (Rect.unit off s.size inb).set
  exact Rect.mem_set_unit.mpr fun a => ⟨by rw [h a]; exact Nat.zero_le _, by rw [h a, Nat.zero_add]; exact (y a).isLt⟩

/-- The four stores of an applying point leave the block of outputs. -/
theorem read_out {κ : Kind} {sp : Space} {sg : RefSig} (v : View sg κ sp S4x3136x256 .f32) (f : v.ty.Contents (Elt F))
    (wf : Vec F S256x256 .f32) (off : Vec F S1x256 .f32) (x : Vec F S4x3136x256 .f32)
    (w0 w1 w2 w3 : Vec F S1x3136x256 .f32) (h0 : w0 = k0_pay37 wf off (slab x 0)) (h1 : w1 = k0_pay37 wf off (slab x 1))
    (h2 : w2 = k0_pay37 wf off (slab x 2)) (h3 : w3 = k0_pay37 wf off (slab x 3))
    (i0 : ∀ a, (![0, 0, 0] : Fin 3 → ℕ) a + S1x3136x256.size a ≤ S4x3136x256.size a)
    (i1 : ∀ a, (![1, 0, 0] : Fin 3 → ℕ) a + S1x3136x256.size a ≤ S4x3136x256.size a)
    (i2 : ∀ a, (![2, 0, 0] : Fin 3 → ℕ) a + S1x3136x256.size a ≤ S4x3136x256.size a)
    (i3 : ∀ a, (![3, 0, 0] : Fin 3 → ℕ) a + S1x3136x256.size a ≤ S4x3136x256.size a) :
    v.read (Elt F) (v.writes (Elt F) f
      [⟨Rect.unit (s := S4x3136x256) ![3, 0, 0] S1x3136x256.size i3, w3⟩,
       ⟨Rect.unit (s := S4x3136x256) ![2, 0, 0] S1x3136x256.size i2, w2⟩,
       ⟨Rect.unit (s := S4x3136x256) ![1, 0, 0] S1x3136x256.size i1, w1⟩,
       ⟨Rect.unit (s := S4x3136x256) ![0, 0, 0] S1x3136x256.size i0, w0⟩])
      = outOf wf off x := by
  subst h0 h1 h2 h3
  have tile : ∀ (k : Fin 4) (y : S4x3136x256.Idx),
      View.TileAt y ![k.val, 0, 0] S1x3136x256.size (k0_pay37 wf off (slab x k)) (outOf wf off x y) := by
    intro k y z hz
    have h0 : (z 0 : ℕ) < 1 := (z 0).isLt
    have e0 : (y 0 : ℕ) = k.val + z 0 := hz 0
    have e1 : (y 1 : ℕ) = 0 + z 1 := hz 1
    have e2 : (y 2 : ℕ) = 0 + z 2 := hz 2
    have hk : (y 0 : Fin 4) = k := Fin.ext (by omega)
    have hzz : z = ix3 (0 : Fin 1) (y 1) (y 2) := by
      funext a
      refine Fin.ext ?_
      fin_cases a
      · show (z 0 : ℕ) = 0; omega
      · show (z 1 : ℕ) = y 1; omega
      · show (z 2 : ℕ) = y 2; omega
    have e : outOf wf off x y = k0_pay37 wf off (slab x k) (ix3 (0 : Fin 1) (y 1) (y 2)) :=
      congrArg (fun q : Fin 4 => k0_pay37 wf off (slab x q) (ix3 (0 : Fin 1) (y 1) (y 2))) hk
    exact (congrArg (k0_pay37 wf off (slab x k)) hzz).trans e.symm
  have hcov : ∀ y, ∃ q ∈ ([⟨Rect.unit (s := S4x3136x256) ![3, 0, 0] S1x3136x256.size i3, k0_pay37 wf off (slab x 3)⟩,
       ⟨Rect.unit (s := S4x3136x256) ![2, 0, 0] S1x3136x256.size i2, k0_pay37 wf off (slab x 2)⟩,
       ⟨Rect.unit (s := S4x3136x256) ![1, 0, 0] S1x3136x256.size i1, k0_pay37 wf off (slab x 1)⟩,
       ⟨Rect.unit (s := S4x3136x256) ![0, 0, 0] S1x3136x256.size i0, k0_pay37 wf off (slab x 0)⟩] : List (View.Piece (Elt F) S4x3136x256 .f32)), y ∈ q.1.set :=
    fun y => View.cover_of_tiled (s := S4x3136x256) _ (fun a => S1x3136x256.size a) (by rfl) y
  refine (View.read_writes_eq_canon _ _ _ hcov).trans (funext fun y => ?_)
  refine View.canon_eq_of_allAt _ _ _ (hcov y) ?_
  exact View.allAt_cons_unit _ _ _ _ _ (tile 3 y) (View.allAt_cons_unit _ _ _ _ _ (tile 2 y)
    (View.allAt_cons_unit _ _ _ _ _ (tile 1 y) (View.allAt_cons_unit _ _ _ _ _ (tile 0 y) (View.allAt_nil _ _))))

end Cert.Proof.Ideal

end
-- ==== Proof.Ideal.RunA.lean ====
/-
  The body at the first point: it starts the accumulator.
-/
module

public import proofs.«01_k».proof.Proof.Ideal.Blocks

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- At the first point the body leaves its inputs and the last output as they were and puts the first four images'
    contribution into the accumulator. -/
theorem runA (c : Dev nD) (i : grid0.Coords) (arg1 : Memref sig .tc .vmem S4x3136x256 .f32) (harg1 : arg1.IsWhole) (arg2 : Memref sig .tc .vmem S256x1 .f32) (harg2 : arg2.IsWhole) (arg3 : Memref sig .tc .vmem S1x256 .f32) (harg3 : arg3.IsWhole) (arg4 : Memref sig .tc .vmem S256x257 .f32) (harg4 : arg4.IsWhole) (arg5 : Memref sig .tc .vmem S4x3136x256 .f32) (harg5 : arg5.IsWhole) (arg6 : Memref sig .tc .vmem S256x256 .f32) (harg6 : arg6.IsWhole) (arg7 : Memref sig .tc .vmem S1x256 .f32) (harg7 : arg7.IsWhole)
    (hc0 : isAcc i) (hc1 : isFirst i) (hc2 : ¬isLater i) (hc3 : ¬isSolve i) (hc4 : ¬isApply i)
    (x0 : Vec F S4x3136x256 .f32) :
      ∀ (E : Set ℕ) (K : PUnit → sProp 𝕄),
        iprop(owns (c : Thread nD τ) arg1 fullShare x0 ∗ (∃ d, owns (c : Thread nD τ) arg4 fullShare d)
            ∗ (iprop(owns (c : Thread nD τ) arg1 fullShare x0 ∗ owns (c : Thread nD τ) arg4 fullShare (accOf x0)) -∗ K ⟨⟩))
          ⊢ wp frame (wpE (defs₀ (F := F)) Variants.none c none) E (cc0__fused_kernel i arg1 harg1 arg2 harg2 arg3 harg3 arg4 harg4 arg5 harg5 arg6 harg6 arg7 harg7) K := by
  intro E K
  simp only [cc0__fused_kernel_eq_skeleton]; unfold cc0__fused_kernel_skel
  unfold owns
  iintro ⟨⟨%f0, %hf0, H0⟩, ⟨%d3, %f3, -, H3⟩, Hk⟩
  obtain rfl := harg1.eq_unread hf0
  sl_exec (disch := first | sl_exact hc0 | sl_exact hc1 | sl_exact hc2 | sl_exact hc3 | sl_exact hc4)
  sl_step
  iapply Hk
  isplitl [H0]
  · iexists _; isplitr; · ipureintro; exact harg1.read_unread _
    iexact H0
  iexists _; isplitr; swap; · iexact H3
  ipureintro
  refine (read_stored _ _ (by intro a; fin_cases a <;> rfl) _ _).trans ?_
  unfold accOf
  congr 1
  · exact (read_slab _ _ 0 _).trans (by rw [hf0])
  · exact (read_slab _ _ 1 _).trans (by rw [hf0])
  · exact (read_slab _ _ 2 _).trans (by rw [hf0])
  · exact (read_slab _ _ 3 _).trans (by rw [hf0])

end Cert.Proof.Ideal

end
-- ==== Proof.Ideal.RunB.lean ====
/-
  The body at a later accumulating point: it adds four more images to the accumulator.
-/
module

public import proofs.«01_k».proof.Proof.Ideal.Blocks

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- At a later accumulating point the body adds its four images' contribution to the accumulator. -/
theorem runB (c : Dev nD) (i : grid0.Coords) (arg1 : Memref sig .tc .vmem S4x3136x256 .f32) (harg1 : arg1.IsWhole) (arg2 : Memref sig .tc .vmem S256x1 .f32) (harg2 : arg2.IsWhole) (arg3 : Memref sig .tc .vmem S1x256 .f32) (harg3 : arg3.IsWhole) (arg4 : Memref sig .tc .vmem S256x257 .f32) (harg4 : arg4.IsWhole) (arg5 : Memref sig .tc .vmem S4x3136x256 .f32) (harg5 : arg5.IsWhole) (arg6 : Memref sig .tc .vmem S256x256 .f32) (harg6 : arg6.IsWhole) (arg7 : Memref sig .tc .vmem S1x256 .f32) (harg7 : arg7.IsWhole)
    (hc0 : isAcc i) (hc1 : ¬isFirst i) (hc2 : isLater i) (hc3 : ¬isSolve i) (hc4 : ¬isApply i)
    (x0 : Vec F S4x3136x256 .f32) (p : Vec F S256x257 .f32) :
      ∀ (E : Set ℕ) (K : PUnit → sProp 𝕄),
        iprop(owns (c : Thread nD τ) arg1 fullShare x0 ∗ owns (c : Thread nD τ) arg4 fullShare p
            ∗ (iprop(owns (c : Thread nD τ) arg1 fullShare x0 ∗ owns (c : Thread nD τ) arg4 fullShare (addOf x0 p)) -∗ K ⟨⟩))
          ⊢ wp frame (wpE (defs₀ (F := F)) Variants.none c none) E (cc0__fused_kernel i arg1 harg1 arg2 harg2 arg3 harg3 arg4 harg4 arg5 harg5 arg6 harg6 arg7 harg7) K := by
  intro E K
  simp only [cc0__fused_kernel_eq_skeleton]; unfold cc0__fused_kernel_skel
  unfold owns
  iintro ⟨⟨%f0, %hf0, H0⟩, ⟨%f3, %hf3, H3⟩, Hk⟩
  obtain rfl := harg1.eq_unread hf0; obtain rfl := harg4.eq_unread hf3
  sl_exec (disch := first | sl_exact hc0 | sl_exact hc1 | sl_exact hc2 | sl_exact hc3 | sl_exact hc4)
  sl_step
  iapply Hk
  isplitl [H0]
  · iexists _; isplitr; · ipureintro; exact harg1.read_unread _
    iexact H0
  iexists _; isplitr; swap; · iexact H3
  ipureintro
  refine (read_stored _ _ (by intro a; fin_cases a <;> rfl) _ _).trans ?_
  unfold addOf
  congr 1
  · exact (read_slab _ _ 0 _).trans (by rw [hf0])
  · exact (read_slab _ _ 1 _).trans (by rw [hf0])
  · exact (read_slab _ _ 2 _).trans (by rw [hf0])
  · exact (read_slab _ _ 3 _).trans (by rw [hf0])
  · exact (read_all _ _ (by intro a; fin_cases a <;> rfl) _).trans (by rw [hf3])

end Cert.Proof.Ideal

end
-- ==== Proof.Ideal.RunC.lean ====
/-
  The body at the solving point: it makes the whitening matrix and the offset from the accumulator.
-/
module

public import proofs.«01_k».proof.Proof.Ideal.Blocks

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- At the solving point the body keeps the accumulator, the weight and the bias and leaves the weighted whitening matrix
    and the offset in the two scratch arrays. -/
theorem runC (c : Dev nD) (i : grid0.Coords) (arg1 : Memref sig .tc .vmem S4x3136x256 .f32) (harg1 : arg1.IsWhole) (arg2 : Memref sig .tc .vmem S256x1 .f32) (harg2 : arg2.IsWhole) (arg3 : Memref sig .tc .vmem S1x256 .f32) (harg3 : arg3.IsWhole) (arg4 : Memref sig .tc .vmem S256x257 .f32) (harg4 : arg4.IsWhole) (arg5 : Memref sig .tc .vmem S4x3136x256 .f32) (harg5 : arg5.IsWhole) (arg6 : Memref sig .tc .vmem S256x256 .f32) (harg6 : arg6.IsWhole) (arg7 : Memref sig .tc .vmem S1x256 .f32) (harg7 : arg7.IsWhole)
    (hc0 : ¬isAcc i) (hc1 : ¬isFirst i) (hc2 : isLater i) (hc3 : isSolve i) (hc4 : ¬isApply i)
    (x1 : Vec F S256x1 .f32) (x2 : Vec F S1x256 .f32) (p : Vec F S256x257 .f32) :
      ∀ (E : Set ℕ) (K : PUnit → sProp 𝕄),
        iprop(owns (c : Thread nD τ) arg2 fullShare x1 ∗ owns (c : Thread nD τ) arg3 fullShare x2 ∗ owns (c : Thread nD τ) arg4 fullShare p ∗ (∃ d, owns (c : Thread nD τ) arg6 fullShare d) ∗ (∃ d, owns (c : Thread nD τ) arg7 fullShare d)
            ∗ (iprop(owns (c : Thread nD τ) arg2 fullShare x1 ∗ owns (c : Thread nD τ) arg3 fullShare x2 ∗ owns (c : Thread nD τ) arg4 fullShare p ∗ owns (c : Thread nD τ) arg6 fullShare (wfOf p x1) ∗ owns (c : Thread nD τ) arg7 fullShare (offOf p x1 x2)) -∗ K ⟨⟩))
          ⊢ wp frame (wpE (defs₀ (F := F)) Variants.none c none) E (cc0__fused_kernel i arg1 harg1 arg2 harg2 arg3 harg3 arg4 harg4 arg5 harg5 arg6 harg6 arg7 harg7) K := by
  intro E K
  simp only [cc0__fused_kernel_eq_skeleton]; unfold cc0__fused_kernel_skel
  simp only [k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%ds0, %fs0, -, HS0⟩, ⟨%ds1, %fs1, -, HS1⟩, Hk⟩
  obtain rfl := harg2.eq_unread hf1; obtain rfl := harg3.eq_unread hf2; obtain rfl := harg4.eq_unread hf3
  sl_exec (disch := first | sl_exact hc0 | sl_exact hc1 | sl_exact hc2 | sl_exact hc3 | sl_exact hc4)
  sl_step
  iapply Hk
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  have e2 : View.readAt (Elt F) arg2.view (Rect.unit ![0, 0] S256x1.size inb_S256x1_S256x1_0_0).toLoadRect (harg2.unread x1) = x1 :=
    (read_all _ _ (by intro a; fin_cases a <;> rfl) _).trans hf1
  have e3 : View.readAt (Elt F) arg3.view (Rect.unit ![0, 0] S1x256.size inb_S1x256_S1x256_0_0).toLoadRect (harg3.unread x2) = x2 :=
    (read_all _ _ (by intro a; fin_cases a <;> rfl) _).trans hf2
  have e4 : View.readAt (Elt F) arg4.view (Rect.unit ![0, 0] S256x257.size inb_S256x257_S256x257_0_0).toLoadRect (harg4.unread p) = p :=
    (read_all _ _ (by intro a; fin_cases a <;> rfl) _).trans hf3
  isplitl [HS0]
  · iexists _; isplitr; swap; · iexact HS0
    ipureintro
    refine (read_stored _ _ (by intro a; fin_cases a <;> rfl) _ _).trans ?_
    refine Eq.trans ?_ (congr (congrArg wfOf e4) e2)
    rfl
  iexists _; isplitr; swap; · iexact HS1
  ipureintro
  refine (read_stored _ _ (by intro a; fin_cases a <;> rfl) _ _).trans ?_
  refine Eq.trans ?_ (congr (congr (congrArg offOf e4) e2) e3)
  rfl

end Cert.Proof.Ideal

end
-- ==== Proof.Ideal.RunD.lean ====
/-
  The body at an applying point: it writes four images of output.
-/
module

public import proofs.«01_k».proof.Proof.Ideal.Blocks

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- At an applying point the body keeps the two scratch arrays and writes its four images' outputs. -/
theorem runD (c : Dev nD) (i : grid0.Coords) (arg1 : Memref sig .tc .vmem S4x3136x256 .f32) (harg1 : arg1.IsWhole) (arg2 : Memref sig .tc .vmem S256x1 .f32) (harg2 : arg2.IsWhole) (arg3 : Memref sig .tc .vmem S1x256 .f32) (harg3 : arg3.IsWhole) (arg4 : Memref sig .tc .vmem S256x257 .f32) (harg4 : arg4.IsWhole) (arg5 : Memref sig .tc .vmem S4x3136x256 .f32) (harg5 : arg5.IsWhole) (arg6 : Memref sig .tc .vmem S256x256 .f32) (harg6 : arg6.IsWhole) (arg7 : Memref sig .tc .vmem S1x256 .f32) (harg7 : arg7.IsWhole)
    (hc0 : ¬isAcc i) (hc1 : ¬isFirst i) (hc2 : isLater i) (hc3 : ¬isSolve i) (hc4 : isApply i)
    (x0 : Vec F S4x3136x256 .f32) (wf : Vec F S256x256 .f32) (off : Vec F S1x256 .f32) :
      ∀ (E : Set ℕ) (K : PUnit → sProp 𝕄),
        iprop(owns (c : Thread nD τ) arg1 fullShare x0 ∗ (∃ d, owns (c : Thread nD τ) arg5 fullShare d) ∗ owns (c : Thread nD τ) arg6 fullShare wf ∗ owns (c : Thread nD τ) arg7 fullShare off
            ∗ (iprop(owns (c : Thread nD τ) arg1 fullShare x0 ∗ owns (c : Thread nD τ) arg5 fullShare (outOf wf off x0) ∗ owns (c : Thread nD τ) arg6 fullShare wf ∗ owns (c : Thread nD τ) arg7 fullShare off) -∗ K ⟨⟩))
          ⊢ wp frame (wpE (defs₀ (F := F)) Variants.none c none) E (cc0__fused_kernel i arg1 harg1 arg2 harg2 arg3 harg3 arg4 harg4 arg5 harg5 arg6 harg6 arg7 harg7) K := by
  intro E K
  simp only [cc0__fused_kernel_eq_skeleton]; unfold cc0__fused_kernel_skel
  simp only [k0_part5_eq_skeleton]
  unfold owns
  iintro ⟨⟨%f0, %hf0, H0⟩, ⟨%d4, %f4, -, H4⟩, ⟨%fs0, %hfs0, HS0⟩, ⟨%fs1, %hfs1, HS1⟩, Hk⟩
  obtain rfl := harg1.eq_unread hf0; obtain rfl := harg6.eq_unread hfs0; obtain rfl := harg7.eq_unread hfs1
  sl_exec (disch := first | sl_exact hc0 | sl_exact hc1 | sl_exact hc2 | sl_exact hc3 | sl_exact hc4)
  sl_step
  iapply Hk
  isplitl [H0]
  · iexists _; isplitr; · ipureintro; exact harg1.read_unread _
    iexact H0
  isplitl [H4]
  · iexists _; isplitr; swap; · iexact H4
    ipureintro
    have e6 : View.readAt (Elt F) arg6.view (Rect.unit ![0, 0] S256x256.size inb_S256x256_S256x256_0_0).toLoadRect (harg6.unread wf) = wf :=
      (read_all _ _ (by intro a; fin_cases a <;> rfl) _).trans hfs0
    have e7 : View.readAt (Elt F) arg7.view (Rect.unit ![0, 0] S1x256.size inb_S1x256_S1x256_0_0).toLoadRect (harg7.unread off) = off :=
      (read_all _ _ (by intro a; fin_cases a <;> rfl) _).trans hfs1
    have es : ∀ (k : Fin 4) (inb : ∀ a, (![k.val, 0, 0] : Fin 3 → ℕ) a + S1x3136x256.size a ≤ S4x3136x256.size a),
        View.readAt (Elt F) arg1.view (Rect.unit (s := S4x3136x256) ![k.val, 0, 0] S1x3136x256.size inb).toLoadRect (harg1.unread x0)
          = slab x0 k := fun k inb => (read_slab _ _ k inb).trans (by rw [hf0])
    have ep : ∀ (k : Fin 4) (inb : ∀ a, (![k.val, 0, 0] : Fin 3 → ℕ) a + S1x3136x256.size a ≤ S4x3136x256.size a), _ :=
      fun k inb => congr (congr (congrArg k0_pay37 e6) e7) (es k inb)
    exact read_out arg5.view f4 wf off x0 _ _ _ _ (ep 0 inb_S4x3136x256_S1x3136x256_0_0_0)
      (ep 1 inb_S4x3136x256_S1x3136x256_1_0_0) (ep 2 inb_S4x3136x256_S1x3136x256_2_0_0)
      (ep 3 inb_S4x3136x256_S1x3136x256_3_0_0) _ _ _ _
  isplitl [HS0]
  · iexists _; isplitr; · ipureintro; exact harg6.read_unread _
    iexact HS0
  iexists _; isplitr; · ipureintro; exact harg7.read_unread _
  iexact HS1

end Cert.Proof.Ideal

end
-- ==== Proof.Ideal.Data.lean ====
/-
  What the kernel's buffers hold from point to point: the accumulator after each of the first sixteen points, the
  whitening matrix and the offset after the solving point, the output block after each applying point.
-/
module

public import proofs.«01_k».proof.Proof.Ideal.RunA
public import proofs.«01_k».proof.Proof.Ideal.RunB
public import proofs.«01_k».proof.Proof.Ideal.RunC
public import proofs.«01_k».proof.Proof.Ideal.RunD

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Point `n` of the grid. -/
def pt (n : ℕ) : Fin cfg0.N := ⟨n % 33, lt_of_lt_of_eq (Nat.mod_lt n (by norm_num)) N_0.symm⟩
theorem lt33 (t : Fin cfg0.N) : t.val < 33 := lt_of_lt_of_eq t.isLt (show cfg0.N = 33 from N_0)
theorem pt_val (t : Fin cfg0.N) : pt t.val = t := Fin.ext (Nat.mod_eq_of_lt (lt33 t))

/-- The accumulator after point `n`. -/
def accAt (c : Dev nD) : ℕ → Vec F S256x257 .f32
  | 0 => accOf (iblk m c 0 (pt 0))
  | n + 1 => addOf (iblk m c 0 (pt (n + 1))) (accAt c n)

/-- The weighted whitening matrix the solving point makes. -/
def wfAt (c : Dev nD) : Vec F S256x256 .f32 := wfOf (accAt m c 15) (iblk m c 1 (pt 16))
/-- The offset the solving point makes. -/
def offAt (c : Dev nD) : Vec F S1x256 .f32 := offOf (accAt m c 15) (iblk m c 1 (pt 16)) (iblk m c 2 (pt 16))

/-- The two scratch arrays and the generator's register after `n` points: the scratch named once the solving point is past. -/
def carry (c : Dev nD) (n : ℕ) : sProp 𝕄 :=
  if n ≤ 16 then Pipeline.ΦA spec0 c
  else iprop((owns (c : Thread nD τ) scW fullShare (wfAt m c) ∗ owns (c : Thread nD τ) scO fullShare (offAt m c)) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c (min t.val 15)
    | ⟨4, _⟩ => outOf (wfAt m c) (offAt m c) (iblk m c 0 t)
  Φ t := carry m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accAt m c (min t.val 15) := by dsimp only [dats]
theorem after4 (c : Dev nD) (t : Fin cfg0.N) :
    (dats m 0 c).after 4 t = outOf (wfAt m c) (offAt m c) (iblk m c 0 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The accumulator's buffer, found at a later point, holds what the last accumulating point before it left. -/
theorem before3 (c : Dev nD) : ∀ (n : ℕ) (t : Fin cfg0.N), t.val = n + 1 → ∀ d,
    (dats m 0 c).before 3 t d = accAt m c (min n 15)
  | n, t, ht, d => by
    have hN := lt33 t
    have hlt : t.val - 1 < cfg0.N := Nat.lt_of_le_of_lt (Nat.sub_le _ _) t.isLt
    rw [(dats m 0 c).before_of_pos 3 t (by omega) (nofetch3 t) d, keep3 ⟨t.val - 1, hlt⟩ (by show t.val - 1 ≠ 32; omega),
      if_neg Bool.false_ne_true]
    unfold Dat.left
    by_cases h : n < 16
    · rw [live3 ⟨t.val - 1, hlt⟩ (by show t.val - 1 < 16; omega)]
      show (dats m 0 c).after 3 ⟨t.val - 1, hlt⟩ = _
      rw [after3]
      show accAt m c (min (t.val - 1) 15) = _
      rw [ht, Nat.add_sub_cancel]
    · rw [idle3 ⟨t.val - 1, hlt⟩ (by show 16 ≤ t.val - 1; omega)]
      obtain ⟨k, rfl⟩ : ∃ k, n = k + 1 := ⟨n - 1, by omega⟩
      show (dats m 0 c).before 3 ⟨t.val - 1, hlt⟩ d = _
      rw [before3 c k ⟨t.val - 1, hlt⟩ (by show t.val - 1 = k + 1; omega) d]
      congr 1; omega

/-! ## What the body is given and what it hands back -/

/-- What the body at point `t` starts from. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]
theorem leaves3 (c : Dev nD) (t : Fin cfg0.N) :
    (owns (c : Thread nD τ) (ms3 t) fullShare (accAt m c (min t.val 15)) : sProp 𝕄) ⊢ (dats m 0 c).leavesExact 3 t := by
  have hN := lt33 t
  by_cases h : t.val < 16
  · unfold Dat.leavesExact; rw [live3 t h, after3]
  · by_cases h' : t.val = 32
    · unfold Dat.leavesExact; rw [idle3 t (by omega), back3 t h', after3]
    · rw [(dats m 0 c).leavesExact_idle 3 t (idle3 t (by omega)) (keep3 t h')]
      iintro H
      iexists (accAt m c 0)
      rw [before3 m c (t.val - 1) t (by omega), show min (t.val - 1) 15 = min t.val 15 by omega]
      iexact H
theorem leaves4 (c : Dev nD) (t : Fin cfg0.N) (h : 17 ≤ t.val) :
    (dats m 0 c).leavesExact 4 t = owns (c : Thread nD τ) (ms4 t) fullShare (outOf (wfAt m c) (offAt m c) (iblk m c 0 t)) := by
  unfold Dat.leavesExact; rw [live4 t h, after4]

theorem carry_open (c : Dev nD) (n : ℕ) (h : n ≤ 16) : carry m c n = (Pipeline.ΦA spec0 c : sProp 𝕄) := if_pos h
theorem carry_named (c : Dev nD) (n : ℕ) (h : 16 < n) : (carry m c n : sProp 𝕄)
    = iprop((owns (c : Thread nD τ) scW fullShare (wfAt m c) ∗ owns (c : Thread nD τ) scO fullShare (offAt m c)) ∗ (∃ r, prngReg c r)) :=
  if_neg (by omega)

set_option maxHeartbeats 1600000 in
/-- The body at any point takes what the point starts from to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hN := lt33 t
  simp only [before0, before1, before2]
  rw [show (dats m 0 c).Φ t.succ = carry m c (t.val + 1) from rfl, show (dats m 0 c).Φ t.castSucc = carry m c t.val from rfl,
    show (dats m 0 c).owesAt () t.succ = (dats m 0 c).owesAt () t.castSucc from rfl, leaves0, leaves1, leaves2]
  by_cases h0 : t.val < 16
  · rw [carry_open m c t.val (by omega), carry_open m c (t.val + 1) (by omega),
      (dats m 0 c).leavesExact_idle 4 t (idle4 t (by omega)) (keep4 t (by omega))]
    by_cases h1 : t.val = 0
    · have e : (accAt m c (min t.val 15)) = accOf (iblk m c 0 t) := by
        rw [h1]; show accOf (iblk m c 0 (pt 0)) = _; rw [show pt 0 = t by rw [← h1]; exact pt_val t]
      iintro ⟨HΦ, Ho, ⟨%d0, H0⟩, ⟨%d1, H1⟩, ⟨%d2, H2⟩, ⟨%d3, H3⟩, H4⟩
      iapply ((runA c (grid0.coords t) _ _ _ _ _ _ _ _ _ _ _ _ _ _ ((isAcc_iff t).mpr h0) ((isFirst_iff t).mpr h1) (fun h => by have := (isLater_iff t).mp h; omega) (fun h => by have := (isSolve_iff t).mp h; omega) (fun h => by have := (isApply_iff t).mp h; omega) (iblk m c 0 t)) Set.univ _)
      isplitl [H0]; · iexact H0
      isplitl [H3]; · iexists _; iexact H3
      iintro ⟨H0, H3⟩
      isplitl [HΦ]; · iexact HΦ
      isplitl [Ho]; · iexact Ho
      isplitl [H0]; · iexact H0
      isplitl [H1]; · iexact H1
      isplitl [H2]; · iexact H2
      isplitl [H3]
      · iapply (leaves3 m c t)
        rw [e]
        iexact H3
      iexact H4
    · have e : (accAt m c (min t.val 15)) = addOf (iblk m c 0 t) (accAt m c (t.val - 1)) := by
        obtain ⟨k, hk⟩ : ∃ k, t.val = k + 1 := ⟨t.val - 1, by omega⟩
        rw [show min t.val 15 = k + 1 by omega, hk, Nat.add_sub_cancel]
        show addOf (iblk m c 0 (pt (k + 1))) (accAt m c k) = _
        rw [← hk, pt_val t]
      iintro ⟨HΦ, Ho, ⟨%d0, H0⟩, ⟨%d1, H1⟩, ⟨%d2, H2⟩, ⟨%d3, H3⟩, H4⟩
      rw [before3 m c (t.val - 1) t (by omega), show min (t.val - 1) 15 = t.val - 1 by omega]
      iapply ((runB c (grid0.coords t) _ _ _ _ _ _ _ _ _ _ _ _ _ _ ((isAcc_iff t).mpr h0) (fun h => h1 ((isFirst_iff t).mp h)) ((isLater_iff t).mpr (by omega)) (fun h => by have := (isSolve_iff t).mp h; omega) (fun h => by have := (isApply_iff t).mp h; omega) (iblk m c 0 t) (accAt m c (t.val - 1))) Set.univ _)
      isplitl [H0]; · iexact H0
      isplitl [H3]; · iexact H3
      iintro ⟨H0, H3⟩
      isplitl [HΦ]; · iexact HΦ
      isplitl [Ho]; · iexact Ho
      isplitl [H0]; · iexact H0
      isplitl [H1]; · iexact H1
      isplitl [H2]; · iexact H2
      isplitl [H3]
      · iapply (leaves3 m c t)
        rw [e]
        iexact H3
      iexact H4
  · by_cases h3 : t.val = 16
    · rw [carry_open m c t.val (by omega), carry_named m c (t.val + 1) (by omega), phiA_eq,
        (dats m 0 c).leavesExact_idle 4 t (idle4 t (by omega)) (keep4 t (by omega))]
      have e16 : pt 16 = t := by rw [← h3]; exact pt_val t
      have ew : wfAt m c = wfOf (accAt m c 15) (iblk m c 1 t) := by unfold wfAt; rw [e16]
      have eo : offAt m c = offOf (accAt m c 15) (iblk m c 1 t) (iblk m c 2 t) := by unfold offAt; rw [e16]
      rw [ew, eo]
      iintro ⟨⟨⟨HS0, HS1⟩, Hg⟩, Ho, ⟨%d0, H0⟩, ⟨%d1, H1⟩, ⟨%d2, H2⟩, ⟨%d3, H3⟩, H4⟩
      rw [before3 m c 15 t h3, show min 15 15 = 15 from rfl]
      iapply ((runC c (grid0.coords t) _ _ _ _ _ _ _ _ _ _ _ _ _ _ (fun h => h0 ((isAcc_iff t).mp h)) (fun h => by have := (isFirst_iff t).mp h; omega) ((isLater_iff t).mpr (by omega)) ((isSolve_iff t).mpr h3) (fun h => by have := (isApply_iff t).mp h; omega) (iblk m c 1 t) (iblk m c 2 t) (accAt m c 15)) Set.univ _)
      isplitl [H1]; · iexact H1
      isplitl [H2]; · iexact H2
      isplitl [H3]; · iexact H3
      isplitl [HS0]; · iexact HS0
      isplitl [HS1]; · iexact HS1
      iintro ⟨H1, H2, H3, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]
      · iapply (leaves3 m c t)
        rw [show min t.val 15 = 15 by omega]
        iexact H3
      iexact H4
    · rw [carry_named m c t.val (by omega), carry_named m c (t.val + 1) (by omega), leaves4 m c t (by omega)]
      iintro ⟨⟨⟨HS0, HS1⟩, Hg⟩, Ho, ⟨%d0, H0⟩, ⟨%d1, H1⟩, ⟨%d2, H2⟩, ⟨%d3, H3⟩, ⟨%d4, H4⟩⟩
      rw [before3 m c (t.val - 1) t (by omega), show min (t.val - 1) 15 = 15 by omega]
      iapply ((runD c (grid0.coords t) _ _ _ _ _ _ _ _ _ _ _ _ _ _ (fun h => h0 ((isAcc_iff t).mp h)) (fun h => by have := (isFirst_iff t).mp h; omega) ((isLater_iff t).mpr (by omega)) (fun h => h3 ((isSolve_iff t).mp h)) ((isApply_iff t).mpr (by omega)) (iblk m c 0 t) (wfAt m c) (offAt m c)) Set.univ _)
      isplitl [H0]; · iexact H0
      isplitl [H4]; · iexists _; iexact H4
      isplitl [HS0]; · iexact HS0
      isplitl [HS1]; · iexact HS1
      iintro ⟨H0, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]
      · iapply (leaves3 m c t)
        rw [show min t.val 15 = 15 by omega]
        iexact H3
      iexact H4

end Cert.Proof.Ideal

end
-- ==== Proof.Ideal.Frame.lean ====
/-
  The kernel's run: it ends, every argument array is as it was, no semaphore is left raised, and the output array holds
  what the points left in it.
-/
module

public import proofs.«01_k».proof.Proof.Ideal.Data
public import Idealize.ShloMosaic.Lib.Claim

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's row of the table is the body on the current buffers. -/
theorem body_row (t : Fin cfg0.N) :
    defs₀ (F := F) .tc cfg0.body (cfg0.bodyArgs t (cfg0.slots t)) = bodyAt0 t := by
  unfold defs₀; rw [Defs.onTc_tc]

/-- The body meets what the pipeline asks of it, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run, with what every array holds at the end and every semaphore at rest. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by
      show Pipeline.ΦA spec0 c ⊢ carry m c 0
      rw [carry_open m c 0 (by omega)])
    (hout := fun c => by
      show carry m c (Fin.last cfg0.N).val ⊢ Pipeline.ΦA spec0 c
      rw [carry_named m c (Fin.last cfg0.N).val (by rw [Fin.val_last, show cfg0.N = 33 from N_0]; norm_num), phiA_eq]
      iintro ⟨⟨HS0, HS1⟩, Hg⟩
      isplitl [HS0 HS1]
      · isplitl [HS0]; · iexists _; iexact HS0
        iexists _; iexact HS1
      iexact Hg)
    (hQ' := fun _ h => h)

/-- The arguments end as they were, and every semaphore at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Ideal

end
-- ==== Proof.Printed.RunA.lean ====
/-
  The body at the first point: it starts the accumulator.
-/
module

public import proofs.«01_k».proof.Proof.Printed.Blocks

@[expose] public section

set_option maxRecDepth 16384

noncomputable section

namespace Cert.Proof.Printed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point the body leaves its inputs and the last output as they were and puts the first four images'
    contribution into the accumulator. -/
theorem runA (c : Dev nD) (i : grid0.Coords) (arg1 : Memref sig .tc .vmem S4x3136x256 .f32) (harg1 : arg1.IsWhole) (arg2 : Memref sig .tc .vmem S256x1 .f32) (harg2 : arg2.IsWhole) (arg3 : Memref sig .tc .vmem S1x256 .f32) (harg3 : arg3.IsWhole) (arg4 : Memref sig .tc .vmem S256x257 .f32) (harg4 : arg4.IsWhole) (arg5 : Memref sig .tc .vmem S4x3136x256 .f32) (harg5 : arg5.IsWhole) (arg6 : Memref sig .tc .vmem S256x256 .f32) (harg6 : arg6.IsWhole) (arg7 : Memref sig .tc .vmem S1x256 .f32) (harg7 : arg7.IsWhole)
    (hc0 : isAcc i) (hc1 : isFirst i) (hc2 : ¬isLater i) (hc3 : ¬isSolve i) (hc4 : ¬isApply i)
    (x0 : Vec F S4x3136x256 .f32) :
      ∀ (E : Set ℕ) (K : PUnit → sProp 𝕄),
        iprop(owns (c : Thread nD τ) arg1 fullShare x0 ∗ (∃ d, owns (c : Thread nD τ) arg4 fullShare d)
            ∗ (iprop(owns (c : Thread nD τ) arg1 fullShare x0 ∗ owns (c : Thread nD τ) arg4 fullShare (accOf x0)) -∗ K ⟨⟩))
          ⊢ wp frame (wpE (defs₀ (F := F)) Variants.none c none) E (cc0__fused_kernel i arg1 harg1 arg2 harg2 arg3 harg3 arg4 harg4 arg5 harg5 arg6 harg6 arg7 harg7) K := by
  intro E K
  simp only [cc0__fused_kernel_eq_skeleton]; unfold cc0__fused_kernel_skel
  unfold owns
  iintro ⟨⟨%f0, %hf0, H0⟩, ⟨%d3, %f3, -, H3⟩, Hk⟩
  obtain rfl := harg1.eq_unread hf0
  sl_exec (disch := first | sl_exact hc0 | sl_exact hc1 | sl_exact hc2 | sl_exact hc3 | sl_exact hc4)
  sl_step
  iapply Hk
  isplitl [H0]
  · iexists _; isplitr; · ipureintro; exact harg1.read_unread _
    iexact H0
  iexists _; isplitr; swap; · iexact H3
  ipureintro
  refine (read_stored _ _ (by intro a; fin_cases a <;> rfl) _ _).trans ?_
  unfold accOf
  congr 1
  · exact (read_slab _ _ 0 _).trans (by rw [hf0])
  · exact (read_slab _ _ 1 _).trans (by rw [hf0])
  · exact (read_slab _ _ 2 _).trans (by rw [hf0])
  · exact (read_slab _ _ 3 _).trans (by rw [hf0])

end Cert.Proof.Printed

end
-- ==== Proof.Printed.RunB.lean ====
/-
  The body at a later accumulating point: it adds four more images to the accumulator.
-/
module

public import proofs.«01_k».proof.Proof.Printed.Blocks

@[expose] public section

set_option maxRecDepth 16384

noncomputable section

namespace Cert.Proof.Printed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a later accumulating point the body adds its four images' contribution to the accumulator. -/
theorem runB (c : Dev nD) (i : grid0.Coords) (arg1 : Memref sig .tc .vmem S4x3136x256 .f32) (harg1 : arg1.IsWhole) (arg2 : Memref sig .tc .vmem S256x1 .f32) (harg2 : arg2.IsWhole) (arg3 : Memref sig .tc .vmem S1x256 .f32) (harg3 : arg3.IsWhole) (arg4 : Memref sig .tc .vmem S256x257 .f32) (harg4 : arg4.IsWhole) (arg5 : Memref sig .tc .vmem S4x3136x256 .f32) (harg5 : arg5.IsWhole) (arg6 : Memref sig .tc .vmem S256x256 .f32) (harg6 : arg6.IsWhole) (arg7 : Memref sig .tc .vmem S1x256 .f32) (harg7 : arg7.IsWhole)
    (hc0 : isAcc i) (hc1 : ¬isFirst i) (hc2 : isLater i) (hc3 : ¬isSolve i) (hc4 : ¬isApply i)
    (x0 : Vec F S4x3136x256 .f32) (p : Vec F S256x257 .f32) :
      ∀ (E : Set ℕ) (K : PUnit → sProp 𝕄),
        iprop(owns (c : Thread nD τ) arg1 fullShare x0 ∗ owns (c : Thread nD τ) arg4 fullShare p
            ∗ (iprop(owns (c : Thread nD τ) arg1 fullShare x0 ∗ owns (c : Thread nD τ) arg4 fullShare (addOf x0 p)) -∗ K ⟨⟩))
          ⊢ wp frame (wpE (defs₀ (F := F)) Variants.none c none) E (cc0__fused_kernel i arg1 harg1 arg2 harg2 arg3 harg3 arg4 harg4 arg5 harg5 arg6 harg6 arg7 harg7) K := by
  intro E K
  simp only [cc0__fused_kernel_eq_skeleton]; unfold cc0__fused_kernel_skel
  unfold owns
  iintro ⟨⟨%f0, %hf0, H0⟩, ⟨%f3, %hf3, H3⟩, Hk⟩
  obtain rfl := harg1.eq_unread hf0; obtain rfl := harg4.eq_unread hf3
  sl_exec (disch := first | sl_exact hc0 | sl_exact hc1 | sl_exact hc2 | sl_exact hc3 | sl_exact hc4)
  sl_step
  iapply Hk
  isplitl [H0]
  · iexists _; isplitr; · ipureintro; exact harg1.read_unread _
    iexact H0
  iexists _; isplitr; swap; · iexact H3
  ipureintro
  refine (read_stored _ _ (by intro a; fin_cases a <;> rfl) _ _).trans ?_
  unfold addOf
  congr 1
  · exact (read_slab _ _ 0 _).trans (by rw [hf0])
  · exact (read_slab _ _ 1 _).trans (by rw [hf0])
  · exact (read_slab _ _ 2 _).trans (by rw [hf0])
  · exact (read_slab _ _ 3 _).trans (by rw [hf0])
  · exact (read_all _ _ (by intro a; fin_cases a <;> rfl) _).trans (by rw [hf3])

end Cert.Proof.Printed

end
-- ==== Proof.Frames.lean ====
/-
  The three frames, and the one constant named in the kernel.
-/
module

public import proofs.«01_k».proof.Defs
public import proofs.«01_k».proof.Proof.Ideal.Frame
public import proofs.«01_k».proof.Proof.Printed.Frame
public import proofs.«01_k».proof.Proof.Gen.ReferenceIdeal.Run
public import Idealize.ShloMosaic.Lib.Quiescent

@[expose] public section

noncomputable section

namespace Cert.Proof

open Idealize.ShloMosaic Idealize.SL.Sem

/-- The kernel as printed runs to its end and keeps its arguments. -/
theorem frame_kernel : Cert.quiescent_Kernel :=
  fun m ρ _ => Printed.frame m ρ

/-- So does its idealization. -/
theorem frame_ideal : Cert.quiescent_KernelIdeal :=
  fun m ρ _ => Ideal.frame m ρ

/-- So does the reference. -/
theorem frame_reference : Cert.quiescent_ReferenceIdeal :=
  fun m ρ _ => (θ_run Cert.ReferenceIdeal.defs _ _).mono
    (fun r h => ⟨fun c => (h c).2, sem_eq_zero_of_no_sems (by decide) r.2⟩) (Cert.ReferenceIdeal.Value.run m ρ)

/-- The one constant named: the reciprocal of the number of positions. -/
theorem preserves : Cert.preserves_Kernel_KernelIdeal :=
  IdealRules.named_const.statement Cert.KernelIdeal.κ "inv_m" .f32 0x36A72F05#32 ((200704⁻¹ : ℝ) : EReal) rfl

end Cert.Proof

end
-- ==== Proof.Ideal.Entries.lean ====
/-
  The kernel's arrays entry by entry, over the extended reals.
-/
module

public import proofs.«01_k».proof.Proof.Ideal.Blocks
public import Idealize.ShloMosaic.Lib.Pipeline.ValueKit

@[expose] public section

set_option maxRecDepth 16384

noncomputable section

namespace Cert.Proof.Ideal

open Cert.KernelIdeal Cert.KernelIdeal.Gen
open Idealize.ShloMosaic Idealize.ShloMosaic.Tactic

/-- The reciprocal of the sample count, the regulariser, and the two coefficients of a step. -/
abbrev invM : EReal := ((200704⁻¹ : ℝ) : EReal)
abbrev epsE : EReal := Ideal.ofBits FTy.f32 0x3A83126F#32

theorem bit_select (P : Prop) [Decidable P] (b : Bool) (h : b = true ↔ P) :
    Scalar.select (BitVec.ofBool b) (1 : EReal) 0 = if P then 1 else 0 := by
  by_cases hP : P
  · rw [if_pos hP, h.mpr hP]; rfl
  · rw [if_neg hP, show b = false by simpa using fun e => hP (h.mp e)]; rfl

/-- Two small numbers agree as words exactly when they agree. -/
theorem word_eq (a b : ℕ) (ha : a < 256) (hb : b < 256) : (BitVec.ofNat 32 a == BitVec.ofNat 32 b) = true ↔ a = b := by
  rw [beq_iff_eq]
  refine ⟨fun h => ?_, fun h => by rw [h]⟩
  have h' := congrArg BitVec.toNat h
  rwa [BitVec.toNat_ofNat, BitVec.toNat_ofNat, Nat.mod_eq_of_lt (by omega), Nat.mod_eq_of_lt (by omega)] at h'

/-- The identity matrix. -/
theorem eyeK_apply (r k : Fin 256) : eyeK (F := Ideal) (ix2 r k) = if r = k then 1 else 0 := by
  pointwise [eyeK, k0_pay14]
  exact bit_select _ _ ((word_eq _ _ r.isLt k.isLt).trans Fin.ext_iff.symm)

/-- The group of a row, and of a column. -/
theorem rowGroup (r k : Fin 256) : k0_pay10 (ix2 r k) = BitVec.ofNat 32 (r.val / 16) := by
  pointwise [k0_pay10]
  revert r
  decide +kernel

theorem colGroup : ∀ k : Fin 256, (Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi posBit (Scalar.extui negBit)))
            (IntOp.cmpi CmpIPredicate.ne (IntOp.remsi ArithUnit.vector (BitVec.ofNat 32 k.val) 16#32) 0#32))
          (IntOp.subi (IntOp.divsi ArithUnit.vector (BitVec.ofNat 32 k.val) 16#32) 1#32)
          (IntOp.divsi ArithUnit.vector (BitVec.ofNat 32 k.val) 16#32)) = BitVec.ofNat 32 (k.val / 16) := by
  decide +kernel

/-- One inside the groups, zero outside. -/
theorem maskK_apply (r k : Fin 256) : maskK (F := Ideal) (ix2 r k) = if r.val / 16 = k.val / 16 then 1 else 0 := by
  unfold maskK
  pointwise [k0_pay13, k0_pay11, k0_pay12]
  rw [rowGroup, colGroup]
  exact bit_select _ _ (word_eq _ _ (by omega) (by omega))

/-- The mean of a channel. -/
theorem mean_apply (p : Vec Ideal S256x257 .f32) (r : Fin 256) : k0_pay8 p (ix2 r 0) = p (ix2 r 256) * invM := by
  pointwise [k0_pay8, k0_pay7]
  rfl

/-- The covariance. -/
theorem sigma_apply (p : Vec Ideal S256x257 .f32) (r k : Fin 256) :
    sigmaK p (ix2 r k) = (p (ix2 r ⟨k.val, by omega⟩) * invM - (p (ix2 r 256) * invM) * (p (ix2 k 256) * invM))
        * maskK (F := Ideal) (ix2 r k) + epsE * eyeK (F := Ideal) (ix2 r k) := by
  pointwise [sigmaK, k0_pay15, k0_pay7, k0_pay9, k0_pay8]
  rw [Fin.sum_univ_one]
  rfl

/-- The reciprocal of a row's group norm. -/
theorem invf_apply (p : Vec Ideal S256x257 .f32) (r : Fin 256) :
    invfK p (ix2 r 0) = Ideal.rsqrt (∑ k : Fin 256, maskK (F := Ideal) (ix2 r k) * ∑ d : Fin 256, sigmaK p (ix2 k d) * sigmaK p (ix2 k d)) := by
  pointwise [invfK, k0_pay16]
  rfl

/-- One image of output. -/
theorem out_apply (wf : Vec Ideal S256x256 .f32) (off : Vec Ideal S1x256 .f32) (x : Vec Ideal S1x3136x256 .f32) (q : Fin 3136) (k : Fin 256) :
   k0_pay37 wf off x (ix3 (0 : Fin 1) q k) = ∑ d : Fin 256, x (ix3 0 q d) * wf (ix2 k d) + off (ix2 0 k) := by
  pointwise [k0_pay37]

/-- What an image contributes to the accumulator. -/
def mom (x : Vec Ideal S1x3136x256 .f32) (r : Fin 256) (k : Fin 257) : EReal :=
  ∑ q : Fin 3136, x (ix3 0 q r) * if h : k.val < 256 then x (ix3 0 q ⟨k.val, h⟩) else 1

theorem acc_apply (x : Vec Ideal S4x3136x256 .f32) (r : Fin 256) (k : Fin 257) :
    accOf x (ix2 r k) = mom (slab x 0) r k + mom (slab x 1) r k + mom (slab x 2) r k + mom (slab x 3) r k := by
  unfold accOf mom
  generalize slab x 0 = x0
  generalize slab x 1 = x1
  generalize slab x 2 = x2
  generalize slab x 3 = x3
  pointwise [k0_pay1]

theorem add_apply (x : Vec Ideal S4x3136x256 .f32) (p : Vec Ideal S256x257 .f32) (r : Fin 256) (k : Fin 257) :
    addOf x p (ix2 r k) = p (ix2 r k) + accOf x (ix2 r k) := by
  unfold addOf accOf
  pointwise [k0_pay2]

/-- The product of two square arrays. -/
def mmK (a b : FVec Ideal S256x256 .f32) : FVec Ideal S256x256 .f32 :=
  matmul dot_S256x256_S256x256_S256x256_1_0_0_1_n_n none a b (constant S256x256 .f32 0x00000000#32)

theorem mmK_apply (a b : FVec Ideal S256x256 .f32) (r k : Fin 256) :
    mmK a b (ix2 r k) = ∑ j : Fin 256, a (ix2 r j) * b (ix2 j k) := by
  pointwise [mmK]

/-- The correction factor of a step. -/
def tK (y z : FVec Ideal S256x256 .f32) : FVec Ideal S256x256 .f32 :=
  subf (mulf (broadcast S256x256 (Scalar.ofBits .f32 0x3FC00000#32)) eyeK)
    (mulf (broadcast S256x256 (Scalar.ofBits .f32 0x3F000000#32)) (mmK z y))

theorem tK_apply (y z : FVec Ideal S256x256 .f32) (r k : Fin 256) :
    tK y z (ix2 r k) = Ideal.ofBits FTy.f32 0x3FC00000#32 * eyeK (F := Ideal) (ix2 r k)
      - Ideal.ofBits FTy.f32 0x3F000000#32 * mmK z y (ix2 r k) := by
  pointwise [tK]

/-- One step on the pair of iterates. -/
def stepK (s : FVec Ideal S256x256 .f32 × FVec Ideal S256x256 .f32) : FVec Ideal S256x256 .f32 × FVec Ideal S256x256 .f32 :=
  (mmK s.1 (tK s.1 s.2), mmK (tK s.1 s.2) s.2)

/-- The starting matrix: the covariance over its group norm. -/
def y0K (p : Vec Ideal S256x257 .f32) : FVec Ideal S256x256 .f32 :=
  mulf (sigmaK p) (broadcastTo S256x256 (invfK p) broadcasts_S256x1_S256x256)

theorem y0K_apply (p : Vec Ideal S256x257 .f32) (r k : Fin 256) :
    y0K p (ix2 r k) = sigmaK p (ix2 r k) * invfK p (ix2 r 0) := by
  pointwise [y0K]

/-- The iterates after `n` steps. -/
def iterK (p : Vec Ideal S256x257 .f32) : ℕ → FVec Ideal S256x256 .f32 × FVec Ideal S256x256 .f32
  | 0 => (y0K p, eyeK)
  | n + 1 => stepK (iterK p n)

/-- The whitening matrix is the tenth iterate, scaled by the square root of the reciprocal norm. -/
theorem whiten_eq (p : Vec Ideal S256x257 .f32) :
    whitenK p = mulf (iterK p 10).2 (broadcastTo S256x256 (sqrt (invfK p)) broadcasts_S256x1_S256x256) := rfl

theorem whiten_apply (p : Vec Ideal S256x257 .f32) (r k : Fin 256) :
    whitenK p (ix2 r k) = (iterK p 10).2 (ix2 r k) * Ideal.sqrt (invfK p (ix2 r 0)) := by
  rw [whiten_eq]
  pointwise

/-- The weighted whitening matrix. -/
theorem wf_apply (p : Vec Ideal S256x257 .f32) (w : Vec Ideal S256x1 .f32) (r k : Fin 256) :
    wfOf p w (ix2 r k) = whitenK p (ix2 r k) * w (ix2 r 0) := by
  pointwise [wfOf, k0_pay4, k0_pay3, k0_pay36]

/-- The offset. -/
theorem off_apply (p : Vec Ideal S256x257 .f32) (w : Vec Ideal S256x1 .f32) (b : Vec Ideal S1x256 .f32) (k : Fin 256) :
    offOf p w b (ix2 0 k) = b (ix2 0 k) - ∑ d : Fin 256, k0_pay8 p (ix2 d 0) * wfOf p w (ix2 k d) := by
  pointwise [offOf, wfOf, k0_pay4, k0_pay5, k0_pay3, k0_pay36]

end Cert.Proof.Ideal

end
-- ==== Proof.Ideal.Value.lean ====
/-
  The result array after the run: every image multiplied by the weighted whitening matrix, with the offset added.
-/
module

public import proofs.«01_k».proof.Proof.Ideal.Frame
public import proofs.«01_k».proof.Proof.Ideal.Entries
public import Idealize.ShloMosaic.Lib.Pipeline.ValueKit

@[expose] public section

set_option maxRecDepth 16384

noncomputable section

namespace Cert.Proof.Ideal

open Cert.KernelIdeal Cert.KernelIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The block each window shows at a point. -/
theorem idx0 : ∀ t : Fin cfg0.N, (t.val < 16 → win0_0.index t = ![t.val, 0, 0]) ∧ (17 ≤ t.val → win0_0.index t = ![t.val - 17, 0, 0]) :=
  (by decide +kernel : ∀ t : Fin grid0.N, _)
theorem idx4 : ∀ t : Fin cfg0.N, (cfg0.win 4).flush t = true → win0_4.index t = ![t.val - 17, 0, 0] ∧ 17 ≤ t.val :=
  (by decide +kernel : ∀ t : Fin grid0.N, _)

theorem idx12 : ∀ t : Fin cfg0.N, win0_1.index t = ![0, 0] ∧ win0_2.index t = ![0, 0] :=
  (by decide +kernel : ∀ t : Fin grid0.N, _)

/-- The images as the kernel sees them. -/
abbrev imgs (c : Dev nD) : FVec Ideal S64x3136x256 .f32 := V m c main_v1

/-- The output array. -/
def outArr (c : Dev nD) : FVec Ideal S64x3136x256 .f32 := fun j =>
  ∑ d : Fin 256, imgs m c (ix3 (j 0) (j 1) d) * wfAt m c (ix2 (j 2) d) + offAt m c (ix2 0 (j 2))

theorem outOf_apply (wf : Vec Ideal S256x256 .f32) (off : Vec Ideal S1x256 .f32) (x : Vec Ideal S4x3136x256 .f32)
    (a : Fin 4) (q : Fin 3136) (k : Fin 256) :
    outOf wf off x (ix3 a q k) = ∑ d : Fin 256, x (ix3 a q d) * wf (ix2 k d) + off (ix2 0 k) :=
  out_apply wf off (slab x a) q k

theorem final (c : Dev nD) : (dats m 0 c).arrAt 4 (cfgs 0).N = outArr m c := by
  refine (dats m 0 c).arrAt_eq_of_covers 4 _ (by decide +kernel) fun t hf y => ?_
  obtain ⟨hi, h17⟩ := idx4 t hf
  have h0 := (idx0 t).2 h17
  blk_simp
  rw [after4]
  refine (congrArg (outOf (wfAt m c) (offAt m c) (iblk m c 0 t)) (show y = ix3 (y 0) (y 1) (y 2) from ?_)).trans
    ((outOf_apply _ _ _ (y 0) (y 1) (y 2)).trans ?_)
  · blk_ext
  unfold outArr
  have e1 : (((win0_4.blk t).view.emb y) 2 : Fin 256) = (y 2 : Fin 256) := Fin.ext (by
    blk_simp [hi])
  have e2 : ∀ d : Fin 256, iblk m c 0 t (ix3 (y 0 : Fin 4) (y 1 : Fin 3136) d)
      = imgs m c (ix3 (((win0_4.blk t).view.emb y) 0) (((win0_4.blk t).view.emb y) 1) d) := by
    intro d
    blk_ext [iblk, h0, hi]
  exact congr (congrArg _ (Finset.sum_congr rfl fun d _ => congr (congrArg _ (e2 d))
    (congrArg (fun a : Fin 256 => wfAt m c (ix2 a d)) e1.symm))) (congrArg (fun a : Fin 256 => offAt m c (ix2 0 a)) e1.symm)

theorem imgs_eq (c : Dev nD) : imgs m c = shapeCast S64x3136x256 (transpose S64x56x56x256 [0, 2, 3, 1]
    (m ((c : Thread nD τ).loc main_arg0)) transposes_S64x256x56x56_S64x56x56x256_0_2_3_1) shapeCasts_S64x56x56x256_S64x3136x256 := by
  show StableHlo.after [hostOps0].flatten (fun b => m (c, b)) (Proc.tc.devRef main_v1) = _
  simp only [hostOps0, List.flatten_cons, List.flatten_nil, List.append_nil, StableHlo.after_cons, StableHlo.after_nil]
  after_results_simp
  after_results_loop
  rfl

theorem wcol_eq (c : Dev nD) : V m c main_v2 = shapeCast S256x1 (m ((c : Thread nD τ).loc main_arg1)) shapeCasts_S1x256x1x1_S256x1 := by
  show StableHlo.after [hostOps0].flatten (fun b => m (c, b)) (Proc.tc.devRef main_v2) = _
  simp only [hostOps0, List.flatten_cons, List.flatten_nil, List.append_nil, StableHlo.after_cons, StableHlo.after_nil]
  after_results_simp
  after_results_loop
  rfl

theorem brow_eq (c : Dev nD) : V m c main_v3 = shapeCast S1x256 (m ((c : Thread nD τ).loc main_arg2)) shapeCasts_S1x256x1x1_S1x256 := by
  show StableHlo.after [hostOps0].flatten (fun b => m (c, b)) (Proc.tc.devRef main_v3) = _
  simp only [hostOps0, List.flatten_cons, List.flatten_nil, List.append_nil, StableHlo.after_cons, StableHlo.after_nil]
  after_results_simp
  after_results_loop
  rfl

/-- An entry of an image, in the argument. -/
theorem imgs_apply (c : Dev nD) (n : Fin 64) (q : Fin 3136) (d : Fin 256) :
    imgs m c (ix3 n q d) = m ((c : Thread nD τ).loc main_arg0) (ix4 n d (⟨q.val / 56, by omega⟩ : Fin 56) (⟨q.val % 56, by omega⟩ : Fin 56)) := by
  rw [imgs_eq]
  generalize m ((c : Thread nD τ).loc main_arg0) = X
  pointwise

theorem w_apply (c : Dev nD) (t : Fin cfg0.N) (r : Fin 256) :
    iblk m c 1 t (ix2 r (0 : Fin 1)) = m ((c : Thread nD τ).loc main_arg1) (ix4 (0 : Fin 1) r (0 : Fin 1) (0 : Fin 1)) := by
  have e : iblk m c 1 t (ix2 r (0 : Fin 1)) = V m c main_v2 (ix2 r (0 : Fin 1)) := by
    have h := (idx12 t).1
    blk_ext [iblk, h]
  rw [e, wcol_eq]
  pointwise

theorem b_apply (c : Dev nD) (t : Fin cfg0.N) (r : Fin 256) :
    iblk m c 2 t (ix2 (0 : Fin 1) r) = m ((c : Thread nD τ).loc main_arg2) (ix4 (0 : Fin 1) r (0 : Fin 1) (0 : Fin 1)) := by
  have e : iblk m c 2 t (ix2 (0 : Fin 1) r) = V m c main_v3 (ix2 (0 : Fin 1) r) := by
    have h := (idx12 t).2
    blk_ext [iblk, h]
  rw [e, brow_eq]
  pointwise

theorem slab_apply (c : Dev nD) (t : Fin cfg0.N) (ht : t.val < 16) (k : Fin 4) (q : Fin 3136) (d : Fin 256) :
    slab (iblk m c 0 t) k (ix3 (0 : Fin 1) q d) = imgs m c (ix3 (⟨4 * t.val + k.val, by omega⟩ : Fin 64) q d) := by
  have h0 := (idx0 t).1 ht
  unfold slab
  blk_ext [iblk, h0]

theorem tail_eq (c : Dev nD) : Pipeline.afterTail₀ cfgs (dats m) 0 (V0 m) [hostOps1] c main_v6
    = transpose S64x256x56x56 [0, 3, 1, 2] (shapeCast S64x56x56x256 (outArr m c) shapeCasts_S64x3136x256_S64x56x56x256)
      transposes_S64x56x56x256_S64x256x56x56_0_3_1_2 := by
  rw [← final]
  unfold Pipeline.afterTail₀
  simp only [hostOps1, List.flatten_cons, List.flatten_nil, List.append_nil, StableHlo.after_cons, StableHlo.after_nil]
  after_results_simp
  after_results_loop
  exact congrArg (fun X : FVec Ideal S64x3136x256 .f32 => transpose S64x256x56x56 [0, 3, 1, 2]
      (shapeCast S64x56x56x256 X shapeCasts_S64x3136x256_S64x56x56x256) transposes_S64x56x56x256_S64x256x56x56_0_3_1_2)
    (Pipeline.withArrays_arr spec0 (by decide) c (V0 m c) (fun w => (dats m 0 c).arrAt w (cfgs 0).N) 4)

theorem tail (c : Dev nD) (n : Fin 64) (k : Fin 256) (u v : Fin 56) :
    Pipeline.afterTail₀ cfgs (dats m) 0 (V0 m) [hostOps1] c main_v6 (ix4 n k u v)
      = outArr m c (ix3 n (⟨u.val * 56 + v.val, by omega⟩ : Fin 3136) k) := by
  rw [tail_eq]
  generalize outArr m c = X
  pointwise

end Cert.Proof.Ideal

end
-- ==== Proof.Maths.Real.lean ====
/-
  Extended reals: sums of real entries, sums with an infinite entry, and the constants both programs use.
-/
module

public import Idealize.ShloMosaic.Lib.Pipeline.ValueKit
public import Idealize.ShloMosaic.Lib.IdealHost

@[expose] public section

noncomputable section

namespace Cert.Proof.Maths

open Idealize.ShloMosaic

/-- A sum of real entries is real. -/
theorem sum_real {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum without a lower infinity is none. -/
theorem sum_ne_bot {ι : Type*} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha]
    intro e
    rcases EReal.add_eq_bot_iff.mp e with e | e
    · exact h a (Finset.mem_insert_self a s) e
    · exact ih (fun i hi => h i (Finset.mem_insert_of_mem hi)) e

/-- A sum with an upper infinity and no lower one is the upper one. -/
theorem sum_top {ι : Type*} [Fintype ι] (f : ι → EReal) (h : ∀ i, f i ≠ ⊥) (j : ι) (hj : f j = ⊤) : ∑ i, f i = ⊤ := by
  classical
  rw [← Finset.add_sum_erase _ f (Finset.mem_univ j), hj]
  exact EReal.top_add_of_ne_bot (sum_ne_bot _ f fun i _ => h i)

/-- A sum with a lower infinity is it. -/
theorem sum_bot {ι : Type*} [Fintype ι] (f : ι → EReal) (j : ι) (hj : f j = ⊥) : ∑ i, f i = ⊥ := by
  classical
  rw [← Finset.add_sum_erase _ f (Finset.mem_univ j), hj, EReal.bot_add]

/-- An infinite entry makes the sum infinite. -/
theorem sum_infinite {ι : Type*} [Fintype ι] (f : ι → EReal) (j : ι) (hj : f j = ⊤ ∨ f j = ⊥) :
    ∑ i, f i = ⊤ ∨ ∑ i, f i = ⊥ := by
  by_cases h : ∃ i, f i = ⊥
  · obtain ⟨i, hi⟩ := h
    exact .inr (sum_bot f i hi)
  · have h' : ∀ i, f i ≠ ⊥ := fun i hi => h ⟨i, hi⟩
    exact .inl (sum_top f h' j (hj.resolve_right (h' j)))

/-- A square is not negative. -/
theorem sq_nonneg' (x : EReal) : 0 ≤ x * x := by
  induction x using EReal.rec with
  | bot => rw [EReal.bot_mul_bot]; exact le_top
  | coe r => rw [← EReal.coe_mul]; exact_mod_cast mul_self_nonneg r
  | top => rw [EReal.top_mul_top]; exact le_top

theorem sq_ne_bot (x : EReal) : x * x ≠ ⊥ := fun h => by
  have := sq_nonneg' x
  rw [h] at this
  exact absurd (le_bot_iff.mp this) (by simp)

theorem sq_infinite {x : EReal} (h : x = ⊤ ∨ x = ⊥) : x * x = ⊤ := by
  rcases h with rfl | rfl
  · exact EReal.top_mul_top
  · exact EReal.bot_mul_bot

/-- The value of a positive normal word from its exponent and fraction. -/
theorem word (b : BitVec 32) (ex fr : ℕ) (h0 : b.extractLsb' 31 1 = 0#1) (h1 : (b.extractLsb' 23 8).toNat = ex)
    (h2 : (b.extractLsb' 0 23).toNat = fr) (hl : ex ≠ 255) (hz : ex ≠ 0) :
    Ideal.ofBits FTy.f32 b = (((2 ^ 23 + fr : ℕ) * (2 : ℝ) ^ ((ex : ℤ) - 127 - 23) : ℝ) : EReal) := by
  rw [show Ideal.ofBits FTy.f32 b = Ideal.ieee 8 23 b from rfl]
  unfold Ideal.ieee
  simp only [h0, h1, h2, Nat.reduceAdd]
  rw [if_neg (by simpa using hl), if_neg hz]
  norm_num

/-- The regulariser, a positive real. -/
theorem eps_real : ∃ e : ℝ, 0 < e ∧ Ideal.ofBits FTy.f32 0x3A83126F#32 = (e : EReal) :=
  ⟨_, by positivity, word 0x3A83126F#32 117 201327 (by decide) (by decide) (by decide) (by decide) (by decide)⟩

theorem three_halves : Ideal.ofBits FTy.f32 0x3FC00000#32 = ((3 / 2 : ℝ) : EReal) := by
  rw [word 0x3FC00000#32 127 4194304 (by decide) (by decide) (by decide) (by decide) (by decide)]; congr 1; norm_num [zpow_neg]
theorem one_half : Ideal.ofBits FTy.f32 0x3F000000#32 = ((1 / 2 : ℝ) : EReal) := by
  rw [word 0x3F000000#32 126 0 (by decide) (by decide) (by decide) (by decide) (by decide)]; congr 1; norm_num
theorem three : Ideal.ofBits FTy.f32 0x40400000#32 = ((3 : ℝ) : EReal) := by
  rw [word 0x40400000#32 128 4194304 (by decide) (by decide) (by decide) (by decide) (by decide)]; congr 1; norm_num
theorem two : Ideal.ofBits FTy.f32 0x40000000#32 = ((2 : ℝ) : EReal) := by
  rw [word 0x40000000#32 128 0 (by decide) (by decide) (by decide) (by decide) (by decide)]; congr 1; norm_num
theorem count : Ideal.ofBits FTy.f32 0x48440000#32 = ((200704 : ℝ) : EReal) := by
  rw [word 0x48440000#32 144 4456448 (by decide) (by decide) (by decide) (by decide) (by decide)]; congr 1; norm_num

/-- Dividing by the sample count is multiplying by its reciprocal. -/
theorem div_count (x : EReal) : Ideal.div x (Ideal.ofBits FTy.f32 0x48440000#32) = x * ((200704⁻¹ : ℝ) : EReal) := by
  rw [count, Ideal.div_coe (by norm_num), one_div]

/-- Dividing by infinity is zero. -/
theorem div_top (x : EReal) : Ideal.div x ⊤ = 0 := by
  unfold Ideal.div
  rw [if_neg (by simp), EReal.inv_top, mul_zero]

end Cert.Proof.Maths

end
-- ==== Proof.Maths.Steps.lean ====
/-
  The iteration over the reals, one sixteen by sixteen block, and channel numbers split into group and place.
-/
module

public import proofs.«01_k».proof.Proof.Maths.Real

@[expose] public section

noncomputable section

namespace Cert.Proof.Maths

/-- A real block. -/
abbrev Blk := Fin 16 → Fin 16 → ℝ

/-- The product of two blocks, the identity, the correction factor. -/
def mulM (A B : Blk) : Blk := fun a b => ∑ c, A a c * B c b
def oneM : Blk := fun a b => if a = b then 1 else 0
def corr (Y Z : Blk) : Blk := fun a b => 3 / 2 * oneM a b - 1 / 2 * mulM Z Y a b

/-- One step on the pair, and the pair after `n` steps from `(Y, 1)`. -/
def stepM (s : Blk × Blk) : Blk × Blk := (mulM s.1 (corr s.1 s.2), mulM (corr s.1 s.2) s.2)
def iterM (Y : Blk) : ℕ → Blk × Blk
  | 0 => (Y, oneM)
  | n + 1 => stepM (iterM Y n)

/-- Channel `a` of group `g`. -/
def chan (g a : Fin 16) : Fin 256 := ⟨g.val * 16 + a.val, by omega⟩

theorem chan_val (g a : Fin 16) : (chan g a).val = g.val * 16 + a.val := rfl
theorem chan_div (g a : Fin 16) : (chan g a).val / 16 = g.val := by rw [chan_val]; omega
theorem chan_inj (g a h b : Fin 16) : chan g a = chan h b ↔ g = h ∧ a = b := by
  constructor
  · intro e
    have e' := congrArg Fin.val e
    rw [chan_val, chan_val] at e'
    exact ⟨Fin.ext (by omega), Fin.ext (by omega)⟩
  · rintro ⟨rfl, rfl⟩; rfl
theorem chan_of (r : Fin 256) : ∃ g a, r = chan g a :=
  ⟨⟨r.val / 16, by omega⟩, ⟨r.val % 16, by omega⟩, Fin.ext (by show r.val = r.val / 16 * 16 + r.val % 16; omega)⟩

/-- A sum over channels, group by group. -/
theorem sum_chan {M : Type*} [AddCommMonoid M] (f : Fin 256 → M) : ∑ r, f r = ∑ g, ∑ a, f (chan g a) :=
  (Fin.sum_mul_add_fin 16 16 f rfl).symm

/-- A sum over channels that vanishes outside a group. -/
theorem sum_group {M : Type*} [AddCommMonoid M] (f : Fin 256 → M) (g : Fin 16) (h : ∀ k a, k ≠ g → f (chan k a) = 0) :
    ∑ r, f r = ∑ a, f (chan g a) := by
  rw [sum_chan]
  exact Finset.sum_eq_single g (fun k _ hk => Finset.sum_eq_zero fun a _ => h k a hk) fun hg => absurd (Finset.mem_univ g) hg

end Cert.Proof.Maths

end
-- ==== Proof.Ideal.Moments.lean ====
/-
  The accumulator after the sixteenth point: the raw second moments and the sums over all images.
-/
module

public import proofs.«01_k».proof.Proof.Ideal.Value
public import proofs.«01_k».proof.Proof.Maths.Steps

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Cert.Proof.Maths

variable (m : (ℓ : Loc nD τ sig) → Buf (Elt Ideal) ℓ)

/-- Image `i`'s contribution, zero past the last image. -/
def part (c : Dev nD) (r : Fin 256) (k : Fin 257) (i : ℕ) : EReal :=
  if hi : i < 64 then ∑ q : Fin 3136, imgs m c (ix3 (⟨i, hi⟩ : Fin 64) q r)
    * (if h : k.val < 256 then imgs m c (ix3 (⟨i, hi⟩ : Fin 64) q ⟨k.val, h⟩) else 1) else 0

theorem mom_eq (c : Dev nD) (t : Fin cfg0.N) (ht : t.val < 16) (j : Fin 4) (r : Fin 256) (k : Fin 257) :
    mom (slab (iblk m c 0 t) j) r k = part m c r k (4 * t.val + j.val) := by
  unfold mom part
  rw [dif_pos (by omega)]
  refine Finset.sum_congr rfl fun q _ => ?_
  rw [slab_apply m c t ht j q r]
  split
  · rw [slab_apply m c t ht j q _]
  · rfl

theorem block_eq (c : Dev nD) (n : ℕ) (hn : n < 16) (r : Fin 256) (k : Fin 257) :
    accOf (iblk m c 0 (pt n)) (ix2 r k)
      = part m c r k (4 * n) + part m c r k (4 * n + 1) + part m c r k (4 * n + 2) + part m c r k (4 * n + 3) := by
  have hv : (pt n).val = n := Nat.mod_eq_of_lt (by omega)
  rw [acc_apply, mom_eq m c _ (by omega), mom_eq m c _ (by omega), mom_eq m c _ (by omega), mom_eq m c _ (by omega), hv]
  rfl

theorem acc_sum (c : Dev nD) (r : Fin 256) (k : Fin 257) : ∀ n : ℕ, n < 16 →
    accAt m c n (ix2 r k) = ∑ i ∈ Finset.range (4 * n + 4), part m c r k i
  | 0, _ => by
    show accOf (iblk m c 0 (pt 0)) (ix2 r k) = _
    rw [block_eq m c 0 (by omega)]
    simp [Finset.sum_range_succ]
  | n + 1, hn => by
    show addOf (iblk m c 0 (pt (n + 1))) (accAt m c n) (ix2 r k) = _
    rw [add_apply, block_eq m c (n + 1) hn, acc_sum c r k n (by omega), show 4 * (n + 1) + 4 = 4 * n + 4 + 4 by omega,
      Finset.sum_range_succ _ (4 * n + 4 + 3), Finset.sum_range_succ _ (4 * n + 4 + 2), Finset.sum_range_succ _ (4 * n + 4 + 1),
      Finset.sum_range_succ _ (4 * n + 4), show 4 * (n + 1) = 4 * n + 4 by omega]
    simp only [add_assoc]

/-- Sample `i` of channel `r`: position `i % 3136` of image `i / 3136`. -/
def samp (c : Dev nD) (r : Fin 256) (i : Fin 200704) : EReal :=
  imgs m c (ix3 (⟨i.val / 3136, by omega⟩ : Fin 64) (⟨i.val % 3136, by omega⟩ : Fin 3136) r)

theorem samp_at (c : Dev nD) (r : Fin 256) (n : Fin 64) (q : Fin 3136) :
    samp m c r ⟨n.val * 3136 + q.val, by omega⟩ = imgs m c (ix3 n q r) := by
  unfold samp
  congr 2
  · exact Fin.ext (by show (n.val * 3136 + q.val) / 3136 = n.val; omega)
  · exact Fin.ext (by show (n.val * 3136 + q.val) % 3136 = q.val; omega)

/-- The accumulated moments, over all samples. -/
theorem acc_apply_mom (c : Dev nD) (r k : Fin 256) :
    accAt m c 15 (ix2 r (⟨k.val, by omega⟩ : Fin 257)) = ∑ i, samp m c r i * samp m c k i := by
  rw [acc_sum m c r _ 15 (by omega), Finset.sum_range, ← Fin.sum_mul_add_fin (L := 200704) 64 3136 _ rfl]
  refine Finset.sum_congr rfl fun n _ => ?_
  unfold part
  rw [dif_pos n.isLt]
  refine Finset.sum_congr rfl fun q _ => ?_
  rw [samp_at, samp_at, dif_pos k.isLt]

theorem acc_apply_sum (c : Dev nD) (r : Fin 256) : accAt m c 15 (ix2 r (256 : Fin 257)) = ∑ i, samp m c r i := by
  rw [acc_sum m c r _ 15 (by omega), Finset.sum_range, ← Fin.sum_mul_add_fin (L := 200704) 64 3136 _ rfl]
  refine Finset.sum_congr rfl fun n _ => ?_
  unfold part
  rw [dif_pos n.isLt]
  refine Finset.sum_congr rfl fun q _ => ?_
  rw [samp_at, dif_neg (by decide), mul_one]

end Cert.Proof.Ideal

end
-- ==== Proof.Ideal.Steps.lean ====
/-
  The kernel's iterates are block diagonal with real blocks: each block runs the iteration of its group.
-/
module

public import proofs.«01_k».proof.Proof.Ideal.Entries
public import proofs.«01_k».proof.Proof.Maths.Steps

@[expose] public section

set_option maxRecDepth 16384

noncomputable section

namespace Cert.Proof.Ideal

open Cert.KernelIdeal Cert.KernelIdeal.Gen
open Idealize.ShloMosaic Idealize.ShloMosaic.Tactic
open Cert.Proof.Maths

/-- The array is block diagonal with the given real blocks. -/
def Diag (A : FVec Ideal S256x256 .f32) (R : Fin 16 → Blk) : Prop :=
  ∀ g a h b, A (ix2 (chan g a) (chan h b)) = if g = h then ((R g a b : ℝ) : EReal) else 0

theorem diag_mul {A B : FVec Ideal S256x256 .f32} {R S : Fin 16 → Blk} (hA : Diag A R) (hB : Diag B S) :
    Diag (mmK A B) (fun g => mulM (R g) (S g)) := by
  intro g a h b
  rw [mmK_apply, sum_group _ g fun k c hk => by rw [hA, if_neg (Ne.symm hk), zero_mul]]
  by_cases e : g = h
  · subst e
    rw [if_pos rfl]
    unfold mulM
    rw [← sum_real]
    exact Finset.sum_congr rfl fun c _ => by rw [hA, hB, if_pos rfl, if_pos rfl, EReal.coe_mul]
  · rw [if_neg e]
    exact Finset.sum_eq_zero fun c _ => by rw [hB, if_neg e, mul_zero]

theorem diag_eye : Diag (eyeK (F := Ideal)) (fun _ => oneM) := by
  intro g a h b
  rw [eyeK_apply]
  unfold oneM
  by_cases e : g = h <;> by_cases e' : a = b <;> simp [chan_inj, e, e']

theorem diag_corr {y z : FVec Ideal S256x256 .f32} {R S : Fin 16 → Blk} (hy : Diag y R) (hz : Diag z S) :
    Diag (tK y z) (fun g => corr (R g) (S g)) := by
  intro g a h b
  rw [tK_apply, diag_eye, diag_mul hz hy, three_halves, one_half]
  by_cases e : g = h
  · rw [if_pos e, if_pos e, if_pos e, ← EReal.coe_mul, ← EReal.coe_mul, ← EReal.coe_sub]
    rfl
  · rw [if_neg e, if_neg e, if_neg e]
    simp

theorem diag_iter {p : Vec Ideal S256x257 .f32} {Y : Fin 16 → Blk} (h0 : Diag (y0K p) Y) (n : ℕ) :
    Diag (iterK p n).1 (fun g => (iterM (Y g) n).1) ∧ Diag (iterK p n).2 (fun g => (iterM (Y g) n).2) := by
  induction n with
  | zero => exact ⟨h0, diag_eye⟩
  | succ n ih => exact ⟨diag_mul ih.1 (diag_corr ih.1 ih.2), diag_mul (diag_corr ih.1 ih.2) ih.2⟩

end Cert.Proof.Ideal

end
-- ==== Proof.Maths.Group.lean ====
/-
  One group of sixteen channels: the kernel's covariance and norm beside the reference's, for any extended-real samples.
-/
module

public import proofs.«01_k».proof.Proof.Maths.Real

@[expose] public section

noncomputable section

namespace Cert.Proof.Maths

open Idealize.ShloMosaic

variable {ι : Type} [Fintype ι]

/-- The reciprocal of the sample count, and the regulariser. -/
abbrev delta : EReal := ((200704⁻¹ : ℝ) : EReal)
abbrev eps : EReal := Ideal.ofBits FTy.f32 0x3A83126F#32
/-- An entry of the identity. -/
def eye (a b : Fin 16) : EReal := if a = b then 1 else 0
theorem eye_real (a b : Fin 16) : eye a b = ((if a = b then 1 else 0 : ℝ) : EReal) := by
  unfold eye; split <;> simp

/-- The mean of a channel. -/
def mean (x : Fin 16 → ι → EReal) (a : Fin 16) : EReal := (∑ i, x a i) * delta
/-- The covariance from raw moments. -/
def covRaw (x : Fin 16 → ι → EReal) (a b : Fin 16) : EReal :=
  ((∑ i, x a i * x b i) * delta - mean x a * mean x b) + eps * eye a b
/-- The covariance from centred samples. -/
def covCen (x : Fin 16 → ι → EReal) (a b : Fin 16) : EReal :=
  eps * eye a b + (∑ i, (x a i - mean x a) * (x b i - mean x b)) * delta
/-- The squared norm of a square array. -/
def normSq (s : Fin 16 → Fin 16 → EReal) : EReal := ∑ a, ∑ b, s a b * s a b

/-- Over real samples the two covariances are the same real array, positive on the diagonal. -/
theorem cov_real (hc : Fintype.card ι = 200704) (y : Fin 16 → ι → ℝ) :
    ∃ S : Fin 16 → Fin 16 → ℝ, (∀ a b, covRaw (fun a i => (y a i : EReal)) a b = (S a b : EReal))
      ∧ (∀ a b, covCen (fun a i => (y a i : EReal)) a b = (S a b : EReal)) ∧ 0 < S 0 0 := by
  obtain ⟨e, he, hE⟩ := eps_real
  have hm : ∀ a, mean (fun a i => (y a i : EReal)) a = (((∑ i, y a i) * 200704⁻¹ : ℝ) : EReal) := by
    intro a
    unfold mean
    rw [sum_real, ← EReal.coe_mul]
  refine ⟨fun a b => e * (if a = b then 1 else 0)
    + (∑ i, (y a i - (∑ i, y a i) * 200704⁻¹) * (y b i - (∑ i, y b i) * 200704⁻¹)) * 200704⁻¹, fun a b => ?_, fun a b => ?_, ?_⟩
  · unfold covRaw eps delta
    rw [hm, hm, hE, eye_real]
    simp only [← EReal.coe_mul]
    rw [sum_real]
    simp only [← EReal.coe_mul, ← EReal.coe_sub, ← EReal.coe_add]
    congr 1
    have h1 : ∀ (A B : ℝ), ∑ i, (y a i - A) * (y b i - B) = ∑ i, y a i * y b i - (∑ i, y a i) * B - A * (∑ i, y b i) + 200704 * (A * B) := by
      intro A B
      have : ∀ i, (y a i - A) * (y b i - B) = y a i * y b i - y a i * B - A * y b i + A * B := fun i => by ring
      simp only [this, Finset.sum_add_distrib, Finset.sum_sub_distrib, ← Finset.sum_mul, ← Finset.mul_sum, Finset.sum_const,
        Finset.card_univ, hc, nsmul_eq_mul]
      push_cast
      ring
    rw [h1]
    ring
  · unfold covCen eps delta
    simp only [hm]
    rw [hE, eye_real]
    simp only [← EReal.coe_sub, ← EReal.coe_mul]
    rw [sum_real]
    simp only [← EReal.coe_mul, ← EReal.coe_add]
  · show 0 < e * (if (0 : Fin 16) = 0 then 1 else 0) + _
    rw [if_pos rfl, mul_one]
    have : 0 ≤ ∑ i, (y 0 i - (∑ i, y 0 i) * 200704⁻¹) * (y 0 i - (∑ i, y 0 i) * 200704⁻¹) :=
      Finset.sum_nonneg fun i _ => mul_self_nonneg _
    positivity

/-- What both programs make of a group: the same real starting array, and the same real factor in front of the last
    iterate, which is zero when a sample is infinite. -/
theorem group (hc : Fintype.card ι = 200704) (x : Fin 16 → ι → EReal) :
    ∃ (Y : Fin 16 → Fin 16 → ℝ) (u : ℝ),
      (∀ a b, covRaw x a b * Ideal.rsqrt (normSq (covRaw x)) = (Y a b : EReal))
      ∧ Ideal.sqrt (Ideal.rsqrt (normSq (covRaw x))) = (u : EReal)
      ∧ (∀ a b, Ideal.div (covCen x a b) (Ideal.sqrt (normSq (covCen x))) = (Y a b : EReal))
      ∧ (∀ z : ℝ, Ideal.div (z : EReal) (Ideal.sqrt (Ideal.sqrt (normSq (covCen x)))) = ((z * u : ℝ) : EReal))
      ∧ ((∃ y : Fin 16 → ι → ℝ, ∀ a i, x a i = (y a i : EReal)) ∨ u = 0) := by
  by_cases hx : ∃ a i, x a i = ⊤ ∨ x a i = ⊥
  · obtain ⟨a, i, hi⟩ := hx
    have hmean : mean x a = ⊤ ∨ mean x a = ⊥ := by
      unfold mean delta
      rcases sum_infinite (x a) i hi with h | h
      · rw [h]; exact .inl (EReal.top_mul_coe_of_pos (by norm_num))
      · rw [h]; exact .inr (EReal.bot_mul_coe_of_pos (by norm_num))
    have hraw : covRaw x a a = ⊥ := by
      unfold covRaw
      rw [sq_infinite hmean, sub_eq_add_neg, EReal.neg_top, EReal.add_bot, EReal.bot_add]
    have hcen : covCen x a a = ⊤ := by
      obtain ⟨e, he, hE⟩ := eps_real
      unfold covCen eps delta
      have hd : x a i - mean x a = ⊤ ∨ x a i - mean x a = ⊥ := by
        rcases hmean with h | h
        · rw [h, sub_eq_add_neg, EReal.neg_top, EReal.add_bot]; exact .inr rfl
        · rw [h, sub_eq_add_neg, EReal.neg_bot]
          by_cases hb : x a i = ⊥
          · rw [hb, EReal.bot_add]; exact .inr rfl
          · exact .inl (EReal.add_top_of_ne_bot hb)
      rw [sum_top (fun j => (x a j - mean x a) * (x a j - mean x a)) (fun _ => sq_ne_bot _) i (sq_infinite hd), EReal.top_mul_coe_of_pos (by norm_num), hE, eye_real,
        ← EReal.coe_mul]
      exact EReal.coe_add_top _
    have hnorm : ∀ s : Fin 16 → Fin 16 → EReal, (s a a = ⊤ ∨ s a a = ⊥) → normSq s = ⊤ := by
      intro s hs
      unfold normSq
      exact sum_top _ (fun b => sum_ne_bot _ _ fun _ _ => sq_ne_bot _) a (sum_top _ (fun _ => sq_ne_bot _) a (sq_infinite hs))
    rw [hnorm _ (.inr hraw), hnorm _ (.inl hcen)]
    refine ⟨fun _ _ => 0, 0, fun b c => ?_, ?_, fun b c => ?_, fun z => ?_, .inr rfl⟩
    · rw [Ideal.rsqrt_top, mul_zero, EReal.coe_zero]
    · rw [Ideal.rsqrt_top, ← EReal.coe_zero, Ideal.sqrt_coe, if_neg (lt_irrefl _), Real.sqrt_zero]
    · show Ideal.div _ ⊤ = _
      rw [div_top, EReal.coe_zero]
    · show Ideal.div _ ⊤ = _
      rw [div_top, mul_zero, EReal.coe_zero]
  · have hfin : ∀ a i, x a i = ((x a i).toReal : EReal) := fun a i =>
      (EReal.coe_toReal (fun h => hx ⟨a, i, .inl h⟩) (fun h => hx ⟨a, i, .inr h⟩)).symm
    have hx' : x = fun a i => ((x a i).toReal : EReal) := funext fun a => funext fun i => hfin a i
    obtain ⟨S, hraw, hcen, hpos⟩ := cov_real hc (fun a i => (x a i).toReal)
    rw [← hx'] at hraw hcen
    have hn : ∀ s : Fin 16 → Fin 16 → EReal, (∀ a b, s a b = (S a b : EReal)) → normSq s = ((∑ a, ∑ b, S a b * S a b : ℝ) : EReal) := by
      intro s hs
      unfold normSq
      simp only [hs, ← EReal.coe_mul, sum_real]
    rw [hn _ hraw, hn _ hcen]
    have hF : 0 < ∑ a, ∑ b, S a b * S a b := by
      have h1 : S 0 0 * S 0 0 ≤ ∑ b, S 0 b * S 0 b :=
        Finset.single_le_sum (f := fun b => S 0 b * S 0 b) (fun b _ => mul_self_nonneg _) (Finset.mem_univ 0)
      have h2 : ∑ b, S 0 b * S 0 b ≤ ∑ a, ∑ b, S a b * S a b :=
        Finset.single_le_sum (f := fun a => ∑ b, S a b * S a b)
          (fun a _ => Finset.sum_nonneg fun b _ => mul_self_nonneg _) (Finset.mem_univ 0)
      have h3 : 0 < S 0 0 * S 0 0 := mul_pos hpos hpos
      linarith
    generalize (∑ a, ∑ b, S a b * S a b : ℝ) = F at hF
    have hq : 0 < Real.sqrt F := Real.sqrt_pos.mpr hF
    have hr : Ideal.rsqrt (F : EReal) = (((Real.sqrt F)⁻¹ : ℝ) : EReal) := by
      rw [Ideal.rsqrt_coe, if_neg (by linarith), if_neg (by linarith)]
    have hs : Ideal.sqrt (F : EReal) = ((Real.sqrt F : ℝ) : EReal) := by
      rw [Ideal.sqrt_coe, if_neg (by linarith)]
    refine ⟨fun a b => S a b * (Real.sqrt F)⁻¹, Real.sqrt ((Real.sqrt F)⁻¹), fun a b => ?_, ?_, fun a b => ?_, fun z => ?_,
      .inl ⟨_, hfin⟩⟩
    · rw [hr, hraw, ← EReal.coe_mul]
    · rw [hr, Ideal.sqrt_coe, if_neg (by have := inv_pos.mpr hq; linarith)]
    · rw [hs, hcen, Ideal.div_coe hq.ne', one_div, ← EReal.coe_mul]
    · rw [hs, Ideal.sqrt_coe, if_neg (by linarith), Ideal.div_coe (Real.sqrt_pos.mpr hq).ne', one_div, ← EReal.coe_mul, Real.sqrt_inv]

/-- The output entry: the raw samples times the weighted matrix with the offset, beside the centred samples times the
    matrix, weighted, with the bias. -/
theorem output (x : Fin 16 → ι → EReal) (z : Fin 16 → ℝ) (u w : ℝ) (b : EReal) (i : ι)
    (h : (∃ y : Fin 16 → ι → ℝ, ∀ a i, x a i = (y a i : EReal)) ∨ u = 0) :
    ∑ d, x d i * ((z d : EReal) * (u : EReal) * (w : EReal)) + (b - ∑ d, mean x d * ((z d : EReal) * (u : EReal) * (w : EReal)))
      = (∑ d, ((z d * u : ℝ) : EReal) * (x d i - mean x d)) * (w : EReal) + b := by
  rcases h with ⟨y, hy⟩ | rfl
  · have hm : ∀ a, mean x a = (((∑ i, y a i) * 200704⁻¹ : ℝ) : EReal) := by
      intro a
      unfold mean
      simp only [hy]
      rw [sum_real, ← EReal.coe_mul]
    simp only [hy, hm, ← EReal.coe_mul, ← EReal.coe_sub, sum_real]
    rw [sub_eq_add_neg, add_left_comm, ← EReal.coe_neg, ← EReal.coe_add, add_comm b]
    congr 2
    rw [Finset.sum_mul, ← sub_eq_add_neg, ← Finset.sum_sub_distrib]
    exact Finset.sum_congr rfl fun d _ => by ring
  · simp

end Cert.Proof.Maths

end
-- ==== Proof.Ideal.Closed.lean ====
/-
  The kernel's output entry in terms of its group's samples, the group's last real iterate, the weight and the bias.
-/
module

public import proofs.«01_k».proof.Proof.Ideal.Moments
public import proofs.«01_k».proof.Proof.Ideal.Steps
public import proofs.«01_k».proof.Proof.Maths.Group

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Cert.Proof.Maths

variable (m : (ℓ : Loc nD τ sig) → Buf (Elt Ideal) ℓ)

/-- The samples of a group. -/
def grp (c : Dev nD) (g a : Fin 16) (i : Fin 200704) : EReal := samp m c (chan g a) i

theorem mean_grp (c : Dev nD) (g a : Fin 16) : k0_pay8 (accAt m c 15) (ix2 (chan g a) 0) = mean (grp m c g) a := by
  rw [mean_apply, acc_apply_sum]; rfl

theorem sigma_grp (c : Dev nD) (g a h b : Fin 16) :
    sigmaK (accAt m c 15) (ix2 (chan g a) (chan h b)) = if g = h then covRaw (grp m c g) a b else 0 := by
  rw [sigma_apply, acc_apply_mom, acc_apply_sum, acc_apply_sum, maskK_apply, eyeK_apply, chan_div, chan_div]
  by_cases e : g = h
  · subst e
    rw [if_pos rfl, if_pos rfl, mul_one]
    unfold covRaw eye
    by_cases e' : a = b
    · subst e'; rw [if_pos rfl, if_pos rfl]; rfl
    · rw [if_neg (fun q => e' ((chan_inj g a g b).mp q).2), if_neg e']; rfl
  · rw [if_neg e, if_neg (fun q => e (Fin.ext q)), if_neg (fun q => e ((chan_inj g a h b).mp q).1), mul_zero, mul_zero, add_zero]

theorem invf_grp (c : Dev nD) (g a : Fin 16) :
    invfK (accAt m c 15) (ix2 (chan g a) 0) = Ideal.rsqrt (normSq (covRaw (grp m c g))) := by
  rw [invf_apply, sum_group _ g fun k b hk => by
    rw [maskK_apply, chan_div, chan_div, if_neg (fun q => hk (Fin.ext q.symm)), zero_mul]]
  refine congrArg Ideal.rsqrt ?_
  unfold normSq
  refine Finset.sum_congr rfl fun b _ => ?_
  rw [maskK_apply, chan_div, chan_div, if_pos rfl, one_mul, sum_group _ g fun k d hk => by
    rw [sigma_grp, if_neg (Ne.symm hk), zero_mul]]
  exact Finset.sum_congr rfl fun d _ => by rw [sigma_grp, if_pos rfl]

theorem y0_grp (c : Dev nD) (Y : Fin 16 → Blk)
    (hY : ∀ g a b, covRaw (grp m c g) a b * Ideal.rsqrt (normSq (covRaw (grp m c g))) = ((Y g a b : ℝ) : EReal)) :
    Diag (y0K (accAt m c 15)) Y := by
  intro g a h b
  rw [y0K_apply, sigma_grp, invf_grp]
  by_cases e : g = h
  · rw [if_pos e, if_pos e, hY]
  · rw [if_neg e, if_neg e, zero_mul]

/-- The weight of a channel, as the solving point reads it. -/
abbrev wt (c : Dev nD) (k : Fin 256) : EReal := m ((c : Thread nD τ).loc main_arg1) (ix4 (0 : Fin 1) k (0 : Fin 1) (0 : Fin 1))
/-- The bias of a channel. -/
abbrev bs (c : Dev nD) (k : Fin 256) : EReal := m ((c : Thread nD τ).loc main_arg2) (ix4 (0 : Fin 1) k (0 : Fin 1) (0 : Fin 1))

theorem wf_grp (c : Dev nD) (Y : Fin 16 → Blk) (u : Fin 16 → ℝ)
    (hY : ∀ g a b, covRaw (grp m c g) a b * Ideal.rsqrt (normSq (covRaw (grp m c g))) = ((Y g a b : ℝ) : EReal))
    (hu : ∀ g, Ideal.sqrt (Ideal.rsqrt (normSq (covRaw (grp m c g)))) = ((u g : ℝ) : EReal)) (g a h b : Fin 16) :
    wfAt m c (ix2 (chan g a) (chan h b))
      = if g = h then (((iterM (Y g) 10).2 a b : ℝ) : EReal) * (u g : EReal) * wt m c (chan g a) else 0 := by
  unfold wfAt
  rw [wf_apply, whiten_apply, (diag_iter (y0_grp m c Y hY) 10).2, invf_grp, hu, w_apply]
  by_cases e : g = h
  · rw [if_pos e, if_pos e]
  · rw [if_neg e, if_neg e, zero_mul, zero_mul]

/-- The output entry. -/
theorem out_grp (c : Dev nD) (Y : Fin 16 → Blk) (u : Fin 16 → ℝ)
    (hY : ∀ g a b, covRaw (grp m c g) a b * Ideal.rsqrt (normSq (covRaw (grp m c g))) = ((Y g a b : ℝ) : EReal))
    (hu : ∀ g, Ideal.sqrt (Ideal.rsqrt (normSq (covRaw (grp m c g)))) = ((u g : ℝ) : EReal))
    (n : Fin 64) (q : Fin 3136) (g a : Fin 16) :
    outArr m c (ix3 n q (chan g a))
      = ∑ d, grp m c g d ⟨n.val * 3136 + q.val, by omega⟩
            * ((((iterM (Y g) 10).2 a d : ℝ) : EReal) * (u g : EReal) * wt m c (chan g a))
        + (bs m c (chan g a) - ∑ d, mean (grp m c g) d * ((((iterM (Y g) 10).2 a d : ℝ) : EReal) * (u g : EReal) * wt m c (chan g a))) := by
  have hoff : offAt m c (ix2 0 (chan g a)) = bs m c (chan g a)
      - ∑ d, mean (grp m c g) d * ((((iterM (Y g) 10).2 a d : ℝ) : EReal) * (u g : EReal) * wt m c (chan g a)) := by
    unfold offAt
    rw [off_apply, b_apply]
    refine congrArg (bs m c (chan g a) - ·) ?_
    show ∑ d : Fin 256, k0_pay8 (accAt m c 15) (ix2 d 0) * wfAt m c (ix2 (chan g a) d) = _
    rw [sum_group _ g fun k d hk => by rw [wf_grp m c Y u hY hu, if_neg (Ne.symm hk), mul_zero]]
    exact Finset.sum_congr rfl fun d _ => by rw [mean_grp, wf_grp m c Y u hY hu, if_pos rfl]
  show ∑ d : Fin 256, imgs m c (ix3 n q d) * wfAt m c (ix2 (chan g a) d) + offAt m c (ix2 0 (chan g a)) = _
  rw [hoff, sum_group _ g fun k d hk => by rw [wf_grp m c Y u hY hu, if_neg (Ne.symm hk), mul_zero]]
  have h : ∀ d ∈ (Finset.univ : Finset (Fin 16)), imgs m c (ix3 n q (chan g d)) * wfAt m c (ix2 (chan g a) (chan g d))
      = grp m c g d ⟨n.val * 3136 + q.val, by omega⟩
            * ((((iterM (Y g) 10).2 a d : ℝ) : EReal) * (u g : EReal) * wt m c (chan g a)) := fun d _ => by
    rw [wf_grp m c Y u hY hu, if_pos rfl]
    unfold grp
    rw [samp_at]
  rw [Finset.sum_congr rfl h]

end Cert.Proof.Ideal

end
-- ==== Proof.Reference.Entries.lean ====
/-
  The reference's arrays entry by entry, over the extended reals.
-/
module

public import proofs.«01_k».proof.Proof.Gen.ReferenceIdeal.Run
public import proofs.«01_k».proof.Proof.Maths.Group
public import proofs.«01_k».proof.Proof.Maths.Steps
public import Idealize.ShloMosaic.Lib.Pipeline.ValueKit

@[expose] public section

set_option maxRecDepth 16384

noncomputable section

namespace Cert.Proof.Reference

open Cert.ReferenceIdeal Cert.ReferenceIdeal.Gen Cert.ReferenceIdeal.Value
open Idealize.ShloMosaic Idealize.ShloMosaic.TcCoe Idealize.ShloMosaic.Tactic
open Cert.Proof.Maths

variable (V : Valuation τ sig (Elt Ideal))

/-- The reference's arrays, as arrays of extended reals. -/
abbrev v1 : FVec Ideal S16x16x200704 .f32 := res_main_v1 V
abbrev v7 : FVec Ideal S16x16x200704 .f32 := res_main_v7 V
abbrev v21 : FVec Ideal S16x16x16 .f32 := res_main_v21 V
abbrev v25 : FVec Ideal S16x1x1 .f32 := res_main_v25 V
abbrev v27 : FVec Ideal S16x16x16 .f32 := res_main_v27 V
abbrev v34 : FVec Ideal S16x16x16 .f32 := res_main_v34 V

/-- The samples of a group: image `i / 3136`, pixel `i % 3136`. -/
def smp (g a : Fin 16) (i : Fin 200704) : EReal :=
  V (Proc.devRef .tc main_arg0)
    (ix4 (⟨i.val / 3136, by omega⟩ : Fin 64) (chan g a) (⟨i.val / 56 % 56, by omega⟩ : Fin 56) (⟨i.val % 56, by omega⟩ : Fin 56))

theorem x_apply (g a : Fin 16) (i : Fin 200704) : v1 V (ix3 g a i) = smp V g a i := by
  pointwise [v1, res_main_v1]
  rfl

theorem xc_apply (g a : Fin 16) (i : Fin 200704) :
    v7 V (ix3 g a i) = smp V g a i - mean (smp V g) a := by
  have h : v7 V (ix3 g a i)
      = v1 V (ix3 g a i) - Ideal.div (∑ j : Fin 200704, v1 V (ix3 g a j)) (Ideal.ofBits FTy.f32 0x48440000#32) := by
    unfold v7 v1 res_main_v7
    generalize res_main_v1 V = x
    pointwise
  rw [h, div_count, x_apply, Finset.sum_congr rfl fun j _ => x_apply V g a j]
  rfl

theorem bit_eye : ∀ a b : Fin 16, IntOp.cmpi CmpIPredicate.eq (IntOp.addi (BitVec.ofNat 32 a.val) 0#32) (BitVec.ofNat 32 b.val)
    = if a = b then 1#1 else 0#1 := by decide

/-- The identity's entries, as the reference makes them. -/
theorem eye_bit (a b : Fin 16) : (FloatOps.uitofp (F := Ideal) FTy.f32
    (IntOp.cmpi CmpIPredicate.eq (IntOp.addi (BitVec.ofNat 32 a.val) 0#32) (BitVec.ofNat 32 b.val)) : EReal) = eye a b := by
  rw [bit_eye]
  unfold eye
  split
  · show (((1#1 : BitVec 1).toNat : ℝ) : EReal) = 1
    simp
  · show (((0#1 : BitVec 1).toNat : ℝ) : EReal) = 0
    simp

theorem cov_apply (g a b : Fin 16) : v21 V (ix3 g a b) = covCen (smp V g) a b := by
  have h : v21 V (ix3 g a b)
      = Ideal.ofBits FTy.f32 0x3A83126F#32 * (FloatOps.uitofp (F := Ideal) FTy.f32
          (IntOp.cmpi CmpIPredicate.eq (IntOp.addi (BitVec.ofNat 32 a.val) 0#32) (BitVec.ofNat 32 b.val)) : EReal)
        + Ideal.div (∑ i : Fin 200704, v7 V (ix3 g a i) * v7 V (ix3 g b i)) (Ideal.ofBits FTy.f32 0x48440000#32) := by
    unfold v21 v7 res_main_v21
    generalize res_main_v7 V = x
    pointwise
  rw [h, div_count, eye_bit, Finset.sum_congr rfl fun j _ => congrArg₂ (· * ·) (xc_apply V g a j) (xc_apply V g b j)]
  rfl

theorem fro_apply (g : Fin 16) :
    v25 V (ix3 g (0 : Fin 1) (0 : Fin 1)) = Ideal.sqrt (normSq (covCen (smp V g))) := by
  have h : v25 V (ix3 g (0 : Fin 1) (0 : Fin 1))
      = Ideal.sqrt (∑ a : Fin 16, ∑ b : Fin 16, v21 V (ix3 g a b) * v21 V (ix3 g a b)) := by
    unfold v25 v21 res_main_v25
    generalize res_main_v21 V = x
    pointwise
  rw [h, Finset.sum_congr rfl fun a _ => Finset.sum_congr rfl fun b _ => congrArg₂ (· * ·) (cov_apply V g a b) (cov_apply V g a b)]
  rfl

theorem y0_apply (g a b : Fin 16) :
    v27 V (ix3 g a b) = Ideal.div (covCen (smp V g) a b) (Ideal.sqrt (normSq (covCen (smp V g)))) := by
  have h : v27 V (ix3 g a b)
      = Ideal.div (v21 V (ix3 g a b)) (v25 V (ix3 g (0 : Fin 1) (0 : Fin 1))) := by
    unfold v27 v21 v25 res_main_v27
    generalize res_main_v21 V = x
    generalize res_main_v25 V = f
    pointwise
  rw [h, cov_apply, fro_apply]

theorem eye_apply (g a b : Fin 16) : v34 V (ix3 g a b) = eye a b := by
  pointwise [v34, res_main_v34]
  exact eye_bit a b

/-- An array of sixteen square blocks. -/
abbrev Arr := FVec Ideal S16x16x16 .f32

/-- The block by block product and the correction factor. -/
def dotR (A B : Arr) : Arr := Host.dotGeneral dot_S16x16x16_S16x16x16_S16x16x16_2_1_1_2_0_0 none A B
def corrR (z y : Arr) : Arr :=
  Host.divf (subf (broadcastInDim S16x16x16 ![0, 1, 2] bcast_S1x16x16_S16x16x16_0_1_2 (broadcastInDim S1x16x16 ![1, 2] bcast_S16x16_S1x16x16_1_2 (mulf (broadcastInDim S16x16 ![] bcast_S_S16x16 (constant S_ .f32 0x40400000#32)) (uitofp .f32 (cmpi .eq (addi (iotaInDim S16x16 32 0) (broadcastInDim S16x16 ![] bcast_S_S16x16 (constantI S_ 32 0#32))) (iotaInDim S16x16 32 1)))))) (dotR z y)) (broadcastInDim S16x16x16 ![] bcast_S_S16x16x16 (constant S_ .f32 0x40000000#32))

/-- The pair after `n` steps. -/
def iterR (y e : Arr) : ℕ → Arr × Arr
  | 0 => (y, e)
  | n + 1 => (dotR (iterR y e n).1 (corrR (iterR y e n).2 (iterR y e n).1), dotR (corrR (iterR y e n).2 (iterR y e n).1) (iterR y e n).2)

theorem last_eq : dotR (res_main_v192 V) (res_main_v178 V) = (iterR (res_main_v27 V) (res_main_v34 V) 10).2 := rfl

theorem dotR_apply (A B : Arr) (g a b : Fin 16) : dotR A B (ix3 g a b) = ∑ c : Fin 16, A (ix3 g a c) * B (ix3 g c b) := by
  pointwise [dotR]

theorem corrR_apply (z y : Arr) (g a b : Fin 16) :
    corrR z y (ix3 g a b) = Ideal.div (Ideal.ofBits FTy.f32 0x40400000#32 * eye a b - dotR z y (ix3 g a b)) (Ideal.ofBits FTy.f32 0x40000000#32) := by
  rw [← eye_bit]
  unfold corrR
  generalize dotR z y = d
  pointwise

/-- The result from the last factor, the norms, the centred samples, the weight and the bias. -/
def outOf (z : Arr) (f : FVec Ideal S16x1x1 .f32) (x : FVec Ideal S16x16x200704 .f32) (w b : FVec Ideal S1x256x1x1 .f32) :
    FVec Ideal S64x256x56x56 .f32 :=
  addf (mulf (transpose S64x256x56x56 [1, 0, 2, 3] (shapeCast _ (Host.dotGeneral dot_S16x16x16_S16x16x200704_S16x16x200704_2_1_1_2_0_0 none (Host.divf z (broadcastInDim S16x16x16 ![0, 1, 2] bcast_S16x1x1_S16x16x16_0_1_2 (Host.sqrt f))) x) shapeCasts_S16x16x200704_S256x64x56x56) transposes_S256x64x56x56_S64x256x56x56_1_0_2_3) (broadcastInDim S64x256x56x56 ![0, 1, 2, 3] bcast_S1x256x1x1_S64x256x56x56_0_1_2_3 w)) (broadcastInDim S64x256x56x56 ![0, 1, 2, 3] bcast_S1x256x1x1_S64x256x56x56_0_1_2_3 b)

theorem outOf_apply (z : Arr) (f : FVec Ideal S16x1x1 .f32) (x : FVec Ideal S16x16x200704 .f32) (w b : FVec Ideal S1x256x1x1 .f32)
    (n : Fin 64) (g a : Fin 16) (u v : Fin 56) :
    outOf z f x w b (ix4 n (chan g a) u v)
      = (∑ e : Fin 16, Ideal.div (z (ix3 g a e)) (Ideal.sqrt (f (ix3 g (0 : Fin 1) (0 : Fin 1))))
            * x (ix3 g e (⟨n.val * 3136 + (u.val * 56 + v.val), by omega⟩ : Fin 200704))) * w (ix4 (0 : Fin 1) (chan g a) (0 : Fin 1) (0 : Fin 1))
        + b (ix4 (0 : Fin 1) (chan g a) (0 : Fin 1) (0 : Fin 1)) := by
  have h1 : (⟨(chan g a).val / 16, by omega⟩ : Fin 16) = g := Fin.ext (chan_div g a)
  have h2 : (⟨(chan g a).val % 16, by omega⟩ : Fin 16) = a := Fin.ext (by show (chan g a).val % 16 = a.val; rw [chan_val]; omega)
  have h3 : (⟨n.val * 3136 + u.val * 56 + v.val, by omega⟩ : Fin 200704) = ⟨n.val * 3136 + (u.val * 56 + v.val), by omega⟩ :=
    Fin.ext (Nat.add_assoc _ _ _)
  unfold outOf
  pointwise
  simp only [h1, h2, h3]

end Cert.Proof.Reference

end
-- ==== Proof.Reference.Steps.lean ====
/-
  The reference's iteration, block by block over the reals, and its result entry.
-/
module

public import proofs.«01_k».proof.Proof.Reference.Entries

@[expose] public section

set_option maxRecDepth 16384

noncomputable section

namespace Cert.Proof.Reference

open Cert.ReferenceIdeal Cert.ReferenceIdeal.Gen Cert.ReferenceIdeal.Value
open Idealize.ShloMosaic Idealize.ShloMosaic.TcCoe Idealize.ShloMosaic.Tactic
open Cert.Proof.Maths

/-- The array holds these real blocks. -/
def Rep (A : Arr) (R : Fin 16 → Blk) : Prop := ∀ g a b, A (ix3 g a b) = ((R g a b : ℝ) : EReal)

theorem rep_dot {A B : Arr} {R S : Fin 16 → Blk} (hA : Rep A R) (hB : Rep B S) : Rep (dotR A B) fun g => mulM (R g) (S g) := by
  intro g a b
  rw [dotR_apply, Finset.sum_congr rfl fun c _ => by rw [hA g a c, hB g c b, ← EReal.coe_mul], sum_real]
  rfl

theorem rep_corr {z y : Arr} {Z Y : Fin 16 → Blk} (hz : Rep z Z) (hy : Rep y Y) : Rep (corrR z y) fun g => corr (Y g) (Z g) := by
  intro g a b
  rw [corrR_apply, rep_dot hz hy g a b, eye_real, three, two, Ideal.div_coe two_ne_zero, ← EReal.coe_mul, ← EReal.coe_sub, ← EReal.coe_mul]
  refine congrArg _ ?_
  show _ = 3 / 2 * oneM a b - 1 / 2 * mulM (Z g) (Y g) a b
  unfold oneM
  ring

theorem rep_iter {y e : Arr} {Y : Fin 16 → Blk} (hy : Rep y Y) (he : Rep e fun _ => oneM) (n : ℕ) :
    Rep (iterR y e n).1 (fun g => (iterM (Y g) n).1) ∧ Rep (iterR y e n).2 (fun g => (iterM (Y g) n).2) := by
  induction n with
  | zero => exact ⟨hy, he⟩
  | succ n ih => exact ⟨rep_dot ih.1 (rep_corr ih.2 ih.1), rep_dot (rep_corr ih.2 ih.1) ih.2⟩

variable (V : Valuation τ sig (Elt Ideal))

/-- The reference's result. -/
abbrev out : FVec Ideal S64x256x56x56 .f32 :=
  outOf (iterR (v27 V) (v34 V) 10).2 (v25 V) (v7 V) (V (Proc.devRef .tc main_arg1)) (V (Proc.devRef .tc main_arg2))

/-- Its entry, once each group's start and norm are known. -/
theorem out_entry (Y : Fin 16 → Blk) (s : Fin 16 → ℝ)
    (hY : ∀ g a b, Ideal.div (covCen (smp V g) a b) (Ideal.sqrt (normSq (covCen (smp V g)))) = ((Y g a b : ℝ) : EReal))
    (hs : ∀ g (z : ℝ), Ideal.div (z : EReal) (Ideal.sqrt (Ideal.sqrt (normSq (covCen (smp V g))))) = ((z * s g : ℝ) : EReal))
    (n : Fin 64) (g a : Fin 16) (u v : Fin 56) :
    out V (ix4 n (chan g a) u v)
      = (∑ e : Fin 16, (((iterM (Y g) 10).2 a e * s g : ℝ) : EReal)
            * (smp V g e ⟨n.val * 3136 + (u.val * 56 + v.val), by omega⟩ - mean (smp V g) e))
          * V (Proc.devRef .tc main_arg1) (ix4 (0 : Fin 1) (chan g a) (0 : Fin 1) (0 : Fin 1))
        + V (Proc.devRef .tc main_arg2) (ix4 (0 : Fin 1) (chan g a) (0 : Fin 1) (0 : Fin 1)) := by
  have h0 : Rep (v27 V) Y := fun g a b => (y0_apply V g a b).trans (hY g a b)
  have he : Rep (v34 V) fun _ => oneM := fun g a b => (eye_apply V g a b).trans (eye_real a b)
  have hz := (rep_iter h0 he 10).2
  rw [out, outOf_apply, Finset.sum_congr rfl fun e _ => by rw [hz g a e, fro_apply, hs, xc_apply]]

end Cert.Proof.Reference

end
-- ==== Proof.Value.lean ====
/-
  The kernel's result and the reference's, equal entry by entry when the weight is finite.
-/
module

public import proofs.«01_k».proof.Defs
public import proofs.«01_k».proof.Proof.Frames
public import proofs.«01_k».proof.Proof.Ideal.Closed
public import proofs.«01_k».proof.Proof.Reference.Steps
public import Idealize.ShloMosaic.Lib.ReduceAll

@[expose] public section

set_option maxRecDepth 16384

noncomputable section

namespace Cert.Proof

open Idealize.ShloMosaic Idealize.ShloMosaic.TcCoe Idealize.ShloMosaic.Tactic Idealize.SL.Sem Idealize.ShloMosaic.StableHlo
open Cert.Proof.Maths

/-- The side conditions of the precondition. -/
theorem preFacts : Cert.Pre_finite_weight.Facts where
  bcast_S_S1x256x1x1 := by decide
  reducesTo_S1x256x1x1_S_d0_1_2_3 := by decide
  h_S_ := by decide

section
open Cert.KernelIdeal Cert.KernelIdeal.Gen

variable (m : (ℓ : Loc nD τ sig) → Buf (Elt Ideal) ℓ)

/-- The precondition makes every weight a real number. -/
theorem weight_real (h : @Cert.Pre_KernelIdeal_finite_weight preFacts m) (c : Dev nD) (k : Fin 256) :
    ∃ w : ℝ, Ideal.wt m c k = (w : EReal) := by
  have h' := congrFun (h c) (fun d => d.elim0)
  dsimp only [Cert.Pre_finite_weight.fn] at h'
  have : Subsingleton Cert.Pre_finite_weight.S_.Idx := ⟨fun p q => funext fun d => d.elim0⟩
  have h0 := Host.reduce_andi_all _ _ _ _ _ h' (ix4 (0 : Fin 1) k (0 : Fin 1) (0 : Fin 1))
  have h1 : Ideal.cmp .olt (max (Ideal.wt m c k) (-(Ideal.wt m c k))) (Idealize.ShloMosaic.Ideal.ofBits FTy.f32 0x7F800000#32) = 1 := h0
  rw [Idealize.ShloMosaic.Ideal.cmp_olt_eq_one] at h1
  have htop : Idealize.ShloMosaic.Ideal.ofBits .f32 0x7F800000#32 = ⊤ := by
    simp [Idealize.ShloMosaic.Ideal.ofBits, Idealize.ShloMosaic.Ideal.ieee]
  rw [htop, max_lt_iff] at h1
  refine ⟨(Ideal.wt m c k).toReal, (EReal.coe_toReal h1.1.ne fun e => ?_).symm⟩
  rw [e] at h1
  exact absurd h1.2 (by simp)

/-- The result array. -/
abbrev result (c : Dev nD) : Buf (Elt Ideal) ((c.tc : Thread nD τ).loc main_v6) :=
  Pipeline.afterTail₀ cfgs (Ideal.dats m) 0 (V0 m) [hostOps1] c main_v6

/-- The kernel ends with that array and with its arguments unchanged. -/
theorem run_result (ρ : Dev nD → PrngReg) : θ_run (defs (F := Ideal)) (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h.1.1.rest_eq c main_v6 (by decide), h.2.1 c⟩)
    (θ_run_and (Ideal.run_main m ρ) (Ideal.frame m ρ))

end

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs group the same samples. -/
theorem smp_eq (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (g : Fin 16) :
    Reference.smp (launchContents m' c) g = Ideal.grp m c g := by
  funext a i
  have e : ∀ j, (m' ((c.tc : Thread Cert.ReferenceIdeal.nD Cert.ReferenceIdeal.τ).loc Cert.ReferenceIdeal.main_arg0) j : EReal)
      = m ((c.tc : Thread Cert.KernelIdeal.nD Cert.KernelIdeal.τ).loc Cert.KernelIdeal.main_arg0) j := fun j => congrFun h0 j
  unfold Ideal.grp Ideal.samp
  rw [Ideal.imgs_apply]
  refine (e _).trans ?_
  have h1 : (⟨i.val / 56 % 56, by omega⟩ : Fin 56) = ⟨i.val % 3136 / 56, by omega⟩ := Fin.ext (by show i.val / 56 % 56 = i.val % 3136 / 56; omega)
  have h2 : (⟨i.val % 56, by omega⟩ : Fin 56) = ⟨i.val % 3136 % 56, by omega⟩ := Fin.ext (by show i.val % 56 = i.val % 3136 % 56; omega)
  rw [h1, h2]

theorem entry_eq (c : Dev Cert.KernelIdeal.nD) (hw : ∀ k, ∃ w : ℝ, Ideal.wt m c k = (w : EReal))
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (n : Fin 64) (g a : Fin 16) (u v : Fin 56) :
    Ideal.outArr m c (ix3 n (⟨u.val * 56 + v.val, by omega⟩ : Fin 3136) (chan g a))
      = Reference.out (launchContents m' c) (ix4 n (chan g a) u v) := by
  have hg := fun g => group (ι := Fin 200704) (Fintype.card_fin _) (Ideal.grp m c g)
  choose Y s hY hs hY' hs' hr using hg
  obtain ⟨w, hw⟩ := hw (chan g a)
  have e1 : @Eq EReal (launchContents m' c (Proc.devRef .tc Cert.ReferenceIdeal.main_arg1)
      (ix4 (0 : Fin 1) (chan g a) (0 : Fin 1) (0 : Fin 1))) (w : EReal) := (congrFun h1 _).trans hw
  have e2 : @Eq EReal (launchContents m' c (Proc.devRef .tc Cert.ReferenceIdeal.main_arg2)
      (ix4 (0 : Fin 1) (chan g a) (0 : Fin 1) (0 : Fin 1))) (Ideal.bs m c (chan g a)) := congrFun h2 _
  have e3 := smp_eq m m' c h0
  rw [Ideal.out_grp m c Y s hY hs, hw, output _ _ _ _ _ _ (hr g)]
  rw [Reference.out_entry _ Y s (fun g a b => by rw [e3]; exact hY' g a b) (fun g z => by rw [e3]; exact hs' g z), e3]
  exact (congrArg₂ (fun p q : EReal => _ * p + q) e1 e2).symm

/-- The result, as an array. -/
theorem result_eq (c : Dev Cert.KernelIdeal.nD) (hw : ∀ k, ∃ w : ℝ, Ideal.wt m c k = (w : EReal))
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    result m c
      = Reference.out (launchContents m' c) := by
  funext i
  obtain ⟨n, k, u, v, rfl⟩ : ∃ (n : Fin 64) (k : Fin 256) (u v : Fin 56), i = ix4 n k u v := ⟨i 0, i 1, i 2, i 3, (ix4_eta i).symm⟩
  obtain ⟨g, a, rfl⟩ := chan_of k
  exact (Ideal.tail m c n (chan g a) u v).trans (entry_eq m m' c hw h0 h1 h2 n g a u v)
end

/-- The value claim. -/
theorem algebraic : @Cert.algebraic_KernelIdeal_ReferenceIdeal_pre_finite_weight Cert.KernelIdeal.Gen.facts Cert.ReferenceIdeal.Gen.facts preFacts := by
  intro m ρ m' ρ' hpre hargs
  refine ⟨fun c => result m c, run_result m ρ, ?_⟩
  · refine (θ_run Cert.ReferenceIdeal.defs _ _).mono (fun r h c => ⟨?_, (h c).2⟩) (Cert.ReferenceIdeal.Value.run m' ρ')
    refine (h c).1.trans (Eq.symm ?_)
    exact result_eq m m' c (weight_real m hpre c) (hargs c).1 (hargs c).2.1 (hargs c).2.2

end Cert.Proof

end
-- ==== Proof.lean ====
/-
  The certificate, assembled.
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim :=
  ⟨Cert.Kernel.Gen.facts, Cert.KernelIdeal.Gen.facts, Cert.ReferenceIdeal.Gen.facts, preFacts,
    frame_kernel, frame_ideal, fun m ρ _ => frame_ideal m ρ trivial, frame_reference, fun m ρ _ => frame_reference m ρ trivial,
    preserves, algebraic⟩

end Cert.Proof

end
